-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "gelu_root_cube" .f32 0x3D122279#32 ((80338380498831 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_v78) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn_part2 {F : FTy → Type} [FloatOps F] (main_arg7 : FVec F S1024x5632 .f32) (main_v33 : IVec S_ 1) : IVec S_ 1 :=
  let main_v34 : FVec F S1024x5632 .f32 := Host.absf main_arg7
  let main_cst_12 : FVec F S_ .f32 := constant S_ .f32 0x7F800000#32
  let main_v35 : FVec F S1024x5632 .f32 := broadcastInDim S1024x5632 ![] bcast_S_S1024x5632 main_cst_12
  let main_v36 : IVec S1024x5632 1 := cmpf .olt main_v34 main_v35
  let main_c_13 : IVec S_ 1 := constantI S_ 1 1#1
  let main_v37 : IVec S_ 1 := (fun x v => Host.reduce IntOp.andi x v reducesTo_S1024x5632_S_d0_1 h_S_) main_v36 main_c_13
  let main_v38 : IVec S_ 1 := andi main_v33 main_v37
  main_v38

def fn_part1 {F : FTy → Type} [FloatOps F] (main_arg4 : FVec F S16384x2048 .f32) (main_arg5 : FVec F S1024x1024 .f32) (main_arg6 : FVec F S1024 .f32) (main_arg7 : FVec F S1024x5632 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x2048 .f32 := Host.absf main_arg4
  let main_cst_6 : FVec F S_ .f32 := constant S_ .f32 0x7F800000#32
  let main_v20 : FVec F S16384x2048 .f32 := broadcastInDim S16384x2048 ![] bcast_S_S16384x2048 main_cst_6
  let main_v21 : IVec S16384x2048 1 := cmpf .olt main_v19 main_v20
  let main_c_7 : IVec S_ 1 := constantI S_ 1 1#1
  let main_v22 : IVec S_ 1 := (fun x v => Host.reduce IntOp.andi x v reducesTo_S16384x2048_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x2048 .f32) (main_arg5 : FVec F S1024x1024 .f32) (main_arg6 : FVec F S1024 .f32) (main_arg7 : FVec F S1024x5632 .f32) (main_arg8 : FVec F S2816x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_v13 main_v16
-- ==== Pre_finite2.lean ====
abbrev S16384x1024 : Shape := ⟨2, ![16384, 1024]⟩
abbrev S1024 : Shape := ⟨1, ![1024]⟩
abbrev S1024x5632 : Shape := ⟨2, ![1024, 5632]⟩
abbrev S2048 : Shape := ⟨1, ![2048]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S16384x1024 .f32) (main_arg1 : FVec F S1024 .f32) (main_arg2 : FVec F S1024x5632 .f32) (main_arg3 : FVec F S2048 .f32) (main_arg4 : FVec F S4x1024 .f32) (main_arg5 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Kernel.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 27
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x2048, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024x5632, .i32⟩
  | .hbm, ⟨11, _⟩ => ⟨S_, .i32⟩
  | .hbm, ⟨12, _⟩ => ⟨S1024x5632, .i32⟩
  | .hbm, ⟨13, _⟩ => ⟨S1024x5632, .i1⟩
  | .hbm, ⟨14, _⟩ => ⟨S1024x1024, .bf16⟩
  | .hbm, ⟨15, _⟩ => ⟨S_, .f32⟩
  | .hbm, ⟨16, _⟩ => ⟨S_, .f32⟩
  | .hbm, ⟨17, _⟩ => ⟨S1024x5632, .f32⟩
  | .hbm, ⟨18, _⟩ => ⟨S1024x5632, .f32⟩
  | .hbm, ⟨19, _⟩ => ⟨S1024x5632, .f32⟩
  | .hbm, ⟨20, _⟩ => ⟨S1024x5632, .f32⟩
  | .hbm, ⟨21, _⟩ => ⟨S1024x5632, .f32⟩
  | .hbm, ⟨22, _⟩ => ⟨S1024x5632, .bf16⟩
  | .hbm, ⟨23, _⟩ => ⟨S2816x1024, .bf16⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x2048, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x5632, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2048 : Shape := ⟨1, ![2048]⟩
abbrev S4x1024 : Shape := ⟨2, ![4, 1024]⟩
abbrev S1x1024 : Shape := ⟨2, ![1, 1024]⟩
abbrev S1x2048 : Shape := ⟨2, ![1, 2048]⟩
abbrev S4x8x128 : Shape := ⟨3, ![4, 8, 128]⟩
abbrev S8x128 : Shape := ⟨2, ![8, 128]⟩
abbrev S16384x256 : Shape := ⟨2, ![16384, 256]⟩
abbrev S16384x2048 : Shape := ⟨2, ![16384, 2048]⟩
abbrev S1024x1024 : Shape := ⟨2, ![1024, 1024]⟩
abbrev S8x1024 : Shape := ⟨2, ![8, 1024]⟩
abbrev S1024x256 : Shape := ⟨2, ![1024, 256]⟩
abbrev S1024x2048 : Shape := ⟨2, ![1024, 2048]⟩
abbrev S1040x1024 : Shape := ⟨2, ![1040, 1024]⟩
abbrev S16x64x128 : Shape := ⟨3, ![16, 64, 128]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1x8x128 : Shape := ⟨3, ![1, 8, 128]⟩
abbrev S1x256 : Shape := ⟨2, ![1, 256]⟩

abbrev nBuf : Space → Nat
  | .hbm => 16
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2048, .f32⟩
  | .hbm, ⟨4, _⟩ => ⟨S4x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S1x2048, .f32⟩
  | .hbm, ⟨9, _⟩ => ⟨S4x8x128, .f32⟩
  | .hbm, ⟨10, _⟩ => ⟨S8x128, .f32⟩
  | .hbm, ⟨11, _⟩ => ⟨S16384x1024, .f32⟩
  | .hbm, ⟨12, _⟩ => ⟨S16384x1024, .bf16⟩
  | .hbm, ⟨13, _⟩ => ⟨S16384x256, .bf16⟩
  | .hbm, ⟨14, _⟩ => ⟨S16384x256, .bf16⟩
  | .hbm, ⟨15, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S1x2048, .f32⟩
  | .local _ .vmem, ⟨9, _⟩ => ⟨S4x8x128, .f32⟩
  | .local _ .vmem, ⟨10, _⟩ => ⟨S8x128, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x2048, .f32⟩
  | .local _ .vmem, ⟨20, _⟩ => ⟨S1024x2048, .f32⟩
  | .local _ .vmem, ⟨21, _⟩ => ⟨S1040x1024, .f32⟩
  | .local _ .vmem, ⟨22, _⟩ => ⟨S16x64x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel2Ideal.lean ====
variable {F : FTy → Type} [FloatOps F] [Named F]
def κ : String → Option EReal := fun
  | "gelu_root_cube" => some ((80338380498831 / 2251799813685248 : ℝ) : EReal)
  | _ => none
-- ==== Reference2Ideal.lean ====
abbrev S16384x1024 : Shape := ⟨2, ![16384, 1024]⟩
abbrev S1024 : Shape := ⟨1, ![1024]⟩
abbrev S1024x5632 : Shape := ⟨2, ![1024, 5632]⟩
abbrev S2048 : Shape := ⟨1, ![2048]⟩
abbrev S4x1024 : Shape := ⟨2, ![4, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x256 : Shape := ⟨2, ![16384, 256]⟩
abbrev S16384x2048 : Shape := ⟨2, ![16384, 2048]⟩
abbrev S2x8192x1024 : Shape := ⟨3, ![2, 8192, 1024]⟩
abbrev S2x8195x1024 : Shape := ⟨3, ![2, 8195, 1024]⟩
abbrev S1x1x1024 : Shape := ⟨3, ![1, 1, 1024]⟩
abbrev S1x2048 : Shape := ⟨2, ![1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2048, .f32⟩
  | .hbm, ⟨4, _⟩ => ⟨S4x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x256, .f32⟩
  | .hbm, ⟨27, _⟩ => ⟨S16384x256, .f32⟩
  | .hbm, ⟨28, _⟩ => ⟨S16384x2048, .f32⟩
  | .hbm, ⟨29, _⟩ => ⟨S2x8192x1024, .f32⟩
  | .hbm, ⟨30, _⟩ => ⟨S_, .i32⟩
  | .hbm, ⟨31, _⟩ => ⟨S_, .f32⟩
  | .hbm, ⟨32, _⟩ => ⟨S2x8195x1024, .f32⟩
  | .hbm, ⟨33, _⟩ => ⟨S2x8192x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S16384x1024, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S_, .f32⟩
  | .hbm, ⟨73, _⟩ => ⟨S16384x2048, .f32⟩
  | .hbm, ⟨74, _⟩ => ⟨S16384x2048, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x2048, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384x1024, .f32⟩
  | .hbm, ⟨104, _⟩ => ⟨S16384x1024, .f32⟩
  | .hbm, ⟨105, _⟩ => ⟨S16384x1024, .bf16⟩
  | .hbm, ⟨106, _⟩ => ⟨S16384x256, .bf16⟩
  | .hbm, ⟨107, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_2 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== Proof.FfnSpec.lean ====
module

public import Idealize.ShloMosaic.PureOps.Ideal

@[expose] public section

noncomputable section

namespace Cert.Ffn

open Idealize.ShloMosaic

/-- A row scaled by the reciprocal root of its mean square, then by the gains `g`. -/
def nrm (x g : Fin 1024 → EReal) (j : Fin 1024) : EReal :=
  x j * Ideal.rsqrt (Ideal.div (∑ k, x k * x k) (Ideal.ofBits .f32 0x44800000#32) + Ideal.ofBits .f32 0x358637BD#32) * g j

/-- One element of the gated sum of the two mixers' outputs. -/
def mix (ca hf hb cb yb : EReal) : EReal := ca * (hf + hb) + cb * yb

/-- A row plus its update through a weight. -/
def upd {n : Nat} (x : Fin 1024 → EReal) (a : Fin n → EReal) (w : Fin n → Fin 1024 → EReal) (j : Fin 1024) : EReal :=
  x j + ∑ k, a k * w k j

/-- A row through one weight column. -/
def col (x : Fin 1024 → EReal) (w : Fin 1024 → EReal) : EReal := ∑ k, x k * w k

/-- The kernel's gated product, of half the gate. -/
def halfGlu (g u : EReal) : EReal := (g * Ideal.tanh g + g) * u

/-- The residual stream after the mixers' output projection. -/
def resid (x hf hb yb ca cb : Fin 1024 → EReal) (wo : Fin 1024 → Fin 1024 → EReal) : Fin 1024 → EReal :=
  upd x (fun k => mix (ca k) (hf k) (hb k) (cb k) (yb k)) wo

/-- A row of the layer's output from its residual stream, the gated product of the normed row given. -/
def ffnRow (act : (Fin 1024 → EReal) → Fin 2816 → EReal) (x1 g2 : Fin 1024 → EReal) (wd : Fin 2816 → Fin 1024 → EReal)
    (g3 : Fin 1024 → EReal) : Fin 1024 → EReal :=
  nrm (upd x1 (act (nrm x1 g2)) wd) g3

/-- The kernel's activations: both halves of the weight at once, the first one halved beforehand. -/
def halfAct (wi : Fin 1024 → Fin 5632 → EReal) (xn : Fin 1024 → EReal) (k : Fin 2816) : EReal :=
  halfGlu (col xn fun l => wi l ⟨k, by omega⟩ * Ideal.ofBits .f32 0x3F000000#32)
    (col xn fun l => wi l ⟨2816 + k, by omega⟩ * Ideal.ofBits .f32 0x3F800000#32)

/-- The reference's gated product: the gate by its logistic function, times the other half. -/
def siluGlu (g u : EReal) : EReal :=
  g * Ideal.div (Ideal.ofBits .f32 0x3F800000#32) (Ideal.ofBits .f32 0x3F800000#32 + Ideal.exp (-g)) * u

/-- The reference's activations. -/
def siluAct (wi : Fin 1024 → Fin 5632 → EReal) (xn : Fin 1024 → EReal) (k : Fin 2816) : EReal :=
  siluGlu (col xn fun l => wi l ⟨k, by omega⟩) (col xn fun l => wi l ⟨2816 + k, by omega⟩)

end Cert.Ffn

end
-- ==== Proof.FfnKernel.lean ====
module

public import proofs.«01_k».proof.Proof.Gen.KernelIdeal.Value
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.FfnValue

open Cert.KernelIdeal Cert.KernelIdeal.Gen Idealize.ShloMosaic Idealize.ShloMosaic.TcCoe Idealize.SL.Sem Cert.Ffn
open Idealize.ShloMosaic.Pipeline (Dat)

theorem pay2_apply (v0 v1 v2 v5 v6 v9 : Vec Ideal S512x1024 .f32) (v11 : Vec Ideal S1024x1024 .bf16) (r : Fin 512) (j : Fin 1024) :
    k0_pay2 v0 v1 v2 v5 v6 v9 v11 (ix2 r j)
      = upd (fun j => v9 (ix2 r j)) (fun k => mix (v0 (ix2 r k)) (v1 (ix2 r k)) (v2 (ix2 r k)) (v5 (ix2 r k)) (v6 (ix2 r k)))
          (fun k j => v11 (ix2 k j)) j := by
  pointwise [k0_pay2, upd, mix]

theorem pay3_apply (v0 v1 v2 v5 v6 v9 : Vec Ideal S512x1024 .f32) (v11 : Vec Ideal S1024x1024 .bf16) (v15 : Vec Ideal S1x1024 .f32)
    (r : Fin 512) (j : Fin 1024) :
    k0_pay3 v0 v1 v2 v5 v6 v9 v11 v15 (ix2 r j)
      = nrm (fun j => k0_pay2 v0 v1 v2 v5 v6 v9 v11 (ix2 r j)) (fun j => v15 (ix2 0 j)) j := by
  unfold k0_pay3
  generalize k0_pay2 v0 v1 v2 v5 v6 v9 v11 = X
  pointwise [nrm]

theorem pay4_apply (v0 v1 v2 v5 v6 v9 : Vec Ideal S512x1024 .f32) (v11 : Vec Ideal S1024x1024 .bf16) (v15 : Vec Ideal S1x1024 .f32)
    (v30 : Vec Ideal S1024x2816 .bf16) (r : Fin 512) (j : Fin 2816) :
    k0_pay4 v0 v1 v2 v5 v6 v9 v11 v15 v30 (ix2 r j)
      = col (fun k => k0_pay3 v0 v1 v2 v5 v6 v9 v11 v15 (ix2 r k)) (fun k => v30 (ix2 k j)) := by
  unfold k0_pay4
  generalize k0_pay3 v0 v1 v2 v5 v6 v9 v11 v15 = X
  pointwise [col]

theorem pay1_apply (v14 : Vec Ideal S512x1024 .f32) (v29 : Vec Ideal S512x1024 .bf16) (v32 : Vec Ideal S512x2816 .f32)
    (v33 : Vec Ideal S1024x2816 .bf16) (v41 : Vec Ideal S2816x1024 .bf16) (v45 : Vec Ideal S1x1024 .f32) (r : Fin 512) (j : Fin 1024) :
    k0_pay1 v14 v29 v32 v33 v41 v45 (ix2 r j)
      = nrm (upd (fun j => v14 (ix2 r j))
            (fun k : Fin 2816 => halfGlu (v32 (ix2 r k)) (col (fun l => v29 (ix2 r l)) (fun l => v33 (ix2 l k))))
            (fun k j => v41 (ix2 k j))) (fun j => v45 (ix2 0 j)) j := by
  pointwise [k0_pay1, nrm, upd, halfGlu, col]

end Cert.KernelIdeal.FfnValue

end
-- ==== Proof.FfnValue.lean ====
module

public import proofs.«01_k».proof.Proof.FfnKernel

@[expose] public section

set_option maxRecDepth 16384

noncomputable section

namespace Cert.KernelIdeal.FfnValue

open Cert.KernelIdeal Cert.KernelIdeal.Gen Idealize.ShloMosaic Idealize.ShloMosaic.TcCoe Idealize.SL.Sem Cert.Ffn
open Idealize.ShloMosaic.Pipeline (Dat)

variable (m : (ℓ : Loc nD τ sig) → Buf (Elt Ideal) ℓ) (c : Dev nD)

/-- The residual stream's row `i`, of the arguments. -/
def residRow (i : Fin 16384) : Fin 1024 → EReal :=
  resid (fun j => m (c, main_arg0) (ix2 i j)) (fun j => m (c, main_arg1) (ix2 i j))
    (fun j => m (c, main_arg2) (ix2 i j)) (fun j => m (c, main_arg3) (ix2 i j))
    (fun j => m (c, main_arg4) (ix2 i ⟨j, by omega⟩)) (fun j => m (c, main_arg4) (ix2 i ⟨1024 + j, by omega⟩))
    fun k j => m (c, main_arg5) (ix2 k j)

/-- The input weight. -/
def wi (l : Fin 1024) (k : Fin 5632) : EReal := m (c, main_arg7) (ix2 l k)

/-- The result array as a function of the arguments. -/
def G : (⟨S16384x1024, .f32⟩ : BufTy).Contents (Elt Ideal) := fun i =>
  ffnRow (halfAct (wi m c)) (residRow m c (i 0)) (fun j => m (c, main_arg6) (ix1 j)) (fun k j => m (c, main_arg8) (ix2 k j))
    (fun j => m (c, main_arg9) (ix1 j)) (i 1)

theorem G_apply (i : Fin 16384) (j : Fin 1024) : G m c (ix2 i j) = ffnRow (halfAct (wi m c)) (residRow m c i)
    (fun j => m (c, main_arg6) (ix1 j)) (fun k j => m (c, main_arg8) (ix2 k j)) (fun j => m (c, main_arg9) (ix1 j)) j := rfl

theorem idx : ∀ t : Fin grid0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![t.val, 0] := by
  decide +kernel

/-! ## What the call's operands hold -/

theorem V_v9 (z : Fin 1) (j : Fin 1024) : V m c main_v9 (ix2 z j) = m (c, main_arg6) (ix1 j) := by
  simp only [V, hostOps0, hostOps0_1, hostOps0_2, List.flatten_cons, List.flatten_nil, List.append_nil, List.cons_append,
    List.nil_append]
  entry_read
  pointwise

theorem V_v10 (z : Fin 1) (j : Fin 1024) : V m c main_v10 (ix2 z j) = m (c, main_arg9) (ix1 j) := by
  simp only [V, hostOps0, hostOps0_1, hostOps0_2, List.flatten_cons, List.flatten_nil, List.append_nil, List.cons_append,
    List.nil_append]
  entry_read
  pointwise

theorem V_v3 (k j : Fin 1024) : V m c main_v3 (ix2 k j) = m (c, main_arg5) (ix2 k j) := by
  simp only [V, hostOps0, hostOps0_1, hostOps0_2, List.flatten_cons, List.flatten_nil, List.append_nil, List.cons_append,
    List.nil_append]
  entry_read
  pointwise

theorem V_v8 (k : Fin 2816) (j : Fin 1024) : V m c main_v8 (ix2 k j) = m (c, main_arg8) (ix2 k j) := by
  simp only [V, hostOps0, hostOps0_1, hostOps0_2, List.flatten_cons, List.flatten_nil, List.append_nil, List.cons_append,
    List.nil_append]
  entry_read
  pointwise

theorem gate_col : ∀ j : Fin 5632, IntOp.cmpi .slt (BitVec.ofNat 32 j) 2816#32 = if j.val < 2816 then 1#1 else 0#1 := by
  decide +kernel

theorem V_v7 (k : Fin 1024) (j : Fin 5632) : V m c main_v7 (ix2 k j)
    = wi m c k j * (if j.val < 2816 then Ideal.ofBits .f32 0x3F000000#32 else Ideal.ofBits .f32 0x3F800000#32) := by
  simp only [V, hostOps0, hostOps0_1, hostOps0_2, List.flatten_cons, List.flatten_nil, List.append_nil, List.cons_append,
    List.nil_append]
  entry_read
  simp only [StableHlo.TRef.toBuf, StableHlo.TRef.ofBuf, cast_eq]
  pointwise [wi]
  rw [gate_col]
  split <;> rfl

/-! ## The blocks -/

theorem read0 (t : Fin cfg0.N) (r : Fin 512) (j : Fin 1024) (i : Fin 16384) (hi : i.val = t.val * 512 + r.val) :
    iblk m c 0 t (ix2 r j) = m (c, main_arg0) (ix2 i j) := by
  blk_ext [iblk, V, idx t]

theorem read1 (t : Fin cfg0.N) (r : Fin 512) (j : Fin 1024) (i : Fin 16384) (hi : i.val = t.val * 512 + r.val) :
    iblk m c 1 t (ix2 r j) = m (c, main_arg1) (ix2 i j) := by
  blk_ext [iblk, V, idx t]

theorem read2 (t : Fin cfg0.N) (r : Fin 512) (j : Fin 1024) (i : Fin 16384) (hi : i.val = t.val * 512 + r.val) :
    iblk m c 2 t (ix2 r j) = m (c, main_arg2) (ix2 i j) := by
  blk_ext [iblk, V, idx t]

theorem read3 (t : Fin cfg0.N) (r : Fin 512) (j : Fin 1024) (i : Fin 16384) (hi : i.val = t.val * 512 + r.val) :
    iblk m c 3 t (ix2 r j) = m (c, main_arg3) (ix2 i j) := by
  blk_ext [iblk, V, idx t]

theorem read4 (t : Fin cfg0.N) (r : Fin 512) (j : Fin 2048) (i : Fin 16384) (hi : i.val = t.val * 512 + r.val) :
    iblk m c 4 t (ix2 r j) = m (c, main_arg4) (ix2 i j) := by
  blk_ext [iblk, V, idx t]

theorem coef_lo (t : Fin cfg0.N) (r : Fin 512) (j : Fin 1024) (i : Fin 16384) (hi : i.val = t.val * 512 + r.val) :
    View.ld (iblk m c 4 t) r0_0 (ix2 r j) = m (c, main_arg4) (ix2 i ⟨j, by omega⟩) :=
  (View.ld_unit_apply_of _ _ _ _ _ (ix2 r ⟨j, by omega⟩) (fun a => by fin_cases a <;> exact (Nat.zero_add _).symm)).trans
    (read4 m c t r _ i hi)

theorem coef_hi (t : Fin cfg0.N) (r : Fin 512) (j : Fin 1024) (i : Fin 16384) (hi : i.val = t.val * 512 + r.val) :
    View.ld (iblk m c 4 t) r0_2 (ix2 r j) = m (c, main_arg4) (ix2 i ⟨1024 + j, by omega⟩) :=
  (View.ld_unit_apply_of _ _ _ _ _ (ix2 r ⟨1024 + j, by omega⟩) (fun a => by
    fin_cases a
    · exact (Nat.zero_add _).symm
    · rfl)).trans (read4 m c t r _ i hi)

theorem read5 (t : Fin cfg0.N) (k j : Fin 1024) : iblk m c 5 t (ix2 k j) = m (c, main_arg5) (ix2 k j) := by
  rw [← V_v3 m c k j]
  blk_ext [iblk, idx t]

theorem read6 (t : Fin cfg0.N) (z : Fin 1) (j : Fin 1024) : iblk m c 6 t (ix2 z j) = m (c, main_arg6) (ix1 j) := by
  rw [← V_v9 m c z j]
  blk_ext [iblk, idx t]

theorem read7 (t : Fin cfg0.N) (k : Fin 1024) (j : Fin 5632) : iblk m c 7 t (ix2 k j) = wi m c k j *
      (if j.val < 2816 then Ideal.ofBits .f32 0x3F000000#32 else Ideal.ofBits .f32 0x3F800000#32) := by
  rw [← V_v7 m c k j]
  blk_ext [iblk, idx t]

theorem read8 (t : Fin cfg0.N) (k : Fin 2816) (j : Fin 1024) : iblk m c 8 t (ix2 k j) = m (c, main_arg8) (ix2 k j) := by
  rw [← V_v8 m c k j]
  blk_ext [iblk, idx t]

theorem read9 (t : Fin cfg0.N) (z : Fin 1) (j : Fin 1024) : iblk m c 9 t (ix2 z j) = m (c, main_arg9) (ix1 j) := by
  rw [← V_v10 m c z j]
  blk_ext [iblk, idx t]

theorem wi_lo (t : Fin cfg0.N) (k : Fin 1024) (j : Fin 2816) :
    View.ld (iblk m c 7 t) r0_5 (ix2 k j) = wi m c k ⟨j, by omega⟩ * Ideal.ofBits .f32 0x3F000000#32 := by
  refine (View.ld_unit_apply_of _ _ _ _ _ (ix2 k ⟨j, by omega⟩) (fun a => by
    fin_cases a <;> exact (Nat.zero_add _).symm)).trans ((read7 m c t k _).trans ?_)
  rw [if_pos j.isLt]

theorem wi_hi (t : Fin cfg0.N) (k : Fin 1024) (j : Fin 2816) :
    View.ld (iblk m c 7 t) r0_6 (ix2 k j) = wi m c k ⟨2816 + j, by omega⟩ * Ideal.ofBits .f32 0x3F800000#32 := by
  refine (View.ld_unit_apply_of _ _ _ _ _ (ix2 k ⟨2816 + j, by omega⟩) (fun a => by
    fin_cases a
    · exact (Nat.zero_add _).symm
    · rfl)).trans ((read7 m c t k _).trans ?_)
  rw [if_neg (by show ¬ 2816 + j.val < 2816; omega)]

/-- One row of a block's result, of the operands' rows. -/
theorem out_row (v0 v1 v2 v5 v6 v9 : Vec Ideal S512x1024 .f32) (v11 : Vec Ideal S1024x1024 .bf16) (v15 : Vec Ideal S1x1024 .f32)
    (v30 v33 : Vec Ideal S1024x2816 .bf16) (v41 : Vec Ideal S2816x1024 .bf16) (v45 : Vec Ideal S1x1024 .f32)
    (r : Fin 512) (x1 g2 : Fin 1024 → EReal) (w : Fin 1024 → Fin 5632 → EReal) (wd : Fin 2816 → Fin 1024 → EReal)
    (g3 : Fin 1024 → EReal) (h2 : ∀ j, k0_pay2 v0 v1 v2 v5 v6 v9 v11 (ix2 r j) = x1 j) (h6 : ∀ j, v15 (ix2 0 j) = g2 j)
    (hlo : ∀ l (k : Fin 2816), v30 (ix2 l k) = w l ⟨k, by omega⟩ * Ideal.ofBits .f32 0x3F000000#32)
    (hhi : ∀ l (k : Fin 2816), v33 (ix2 l k) = w l ⟨2816 + k, by omega⟩ * Ideal.ofBits .f32 0x3F800000#32)
    (h8 : ∀ k j, v41 (ix2 k j) = wd k j) (h9 : ∀ j, v45 (ix2 0 j) = g3 j) (j : Fin 1024) :
    k0_pay1 (k0_pay2 v0 v1 v2 v5 v6 v9 v11) (k0_pay3 v0 v1 v2 v5 v6 v9 v11 v15) (k0_pay4 v0 v1 v2 v5 v6 v9 v11 v15 v30)
      v33 v41 v45 (ix2 r j) = ffnRow (halfAct w) x1 g2 wd g3 j := by
  rw [pay1_apply]
  unfold ffnRow halfAct
  simp only [pay4_apply, pay3_apply, h2, hlo, hhi, h6, h8, h9]

theorem final : (dats m 0 c).arrAt 10 cfg0.N = G m c := by
  refine (dats m 0 c).arrAt_eq_of_covers 10 _ (by decide +kernel) fun t hf y => ?_
  blk_simp
  rw [after0_10]
  frame_out
  obtain ⟨r, j, rfl⟩ : ∃ (r : Fin 512) (j : Fin 1024), y = ix2 r j := ⟨y 0, y 1, eq_ix2 y⟩
  have hN : t.val < 32 := t.isLt
  obtain ⟨i, hi⟩ : ∃ i : Fin 16384, i.val = t.val * 512 + r.val := ⟨⟨t.val * 512 + r.val, by omega⟩, rfl⟩
  have he : ((View.whole main_v11).slice (win0_10.rect t)).emb (ix2 r j) = ix2 i j := by blk_ext [idx t]
  have h2 : ∀ j, k0_pay2 (View.ld (iblk m c 4 t) r0_0) (iblk m c 1 t) (iblk m c 2 t) (View.ld (iblk m c 4 t) r0_2)
      (iblk m c 3 t) (iblk m c 0 t) (iblk m c 5 t) (ix2 r j) = residRow m c i j := fun j => by
    rw [pay2_apply]
    simp only [coef_lo m c t r _ i hi, coef_hi m c t r _ i hi, read0 m c t r _ i hi, read1 m c t r _ i hi,
      read2 m c t r _ i hi, read3 m c t r _ i hi, read5]
    rfl
  rw [he, G_apply]
  exact out_row _ _ _ _ _ _ _ _ _ _ _ _ r _ _ _ _ _ h2 (fun j => read6 m c t 0 j) (wi_lo m c t) (wi_hi m c t)
    (read8 m c t) (fun j => read9 m c t 0 j) j

end Cert.KernelIdeal.FfnValue

end
-- ==== Proof.FfnRef.lean ====
module

public import proofs.«01_k».proof.Proof.Gen.ReferenceIdeal.Read
public import proofs.«01_k».proof.Proof.FfnSpec
public import Idealize.ShloMosaic.Lib.Pointwise

@[expose] public section

set_option maxRecDepth 16384

noncomputable section

namespace Cert.ReferenceIdeal.FfnRef

open Cert.ReferenceIdeal Cert.ReferenceIdeal.Read Idealize.ShloMosaic Cert.Ffn

variable (x0 x1 x2 x3 : (⟨S16384x1024, .f32⟩ : BufTy).Contents (Elt Ideal)) (x4 : (⟨S16384x2048, .f32⟩ : BufTy).Contents (Elt Ideal))
  (x5 : (⟨S1024x1024, .f32⟩ : BufTy).Contents (Elt Ideal)) (x6 : (⟨S1024, .f32⟩ : BufTy).Contents (Elt Ideal))
  (x7 : (⟨S1024x5632, .f32⟩ : BufTy).Contents (Elt Ideal)) (x8 : (⟨S2816x1024, .f32⟩ : BufTy).Contents (Elt Ideal))
  (x9 : (⟨S1024, .f32⟩ : BufTy).Contents (Elt Ideal)) (i : Fin 16384)

theorem v7_apply (j : Fin 1024) : val_main_v7 x0 x1 x2 x3 x4 x5 (ix2 i j)
    = resid (fun j => x0 (ix2 i j)) (fun j => x1 (ix2 i j)) (fun j => x2 (ix2 i j)) (fun j => x3 (ix2 i j))
        (fun j => x4 (ix2 i ⟨j, by omega⟩)) (fun j => x4 (ix2 i ⟨1024 + j, by omega⟩)) (fun k j => x5 (ix2 k j)) j := by
  pointwise [val_main_v7, val_main_v6, val_main_v5, val_main_v4, val_main_v3, val_main_v2, val_main_v1, val_main_v0, resid, upd, mix]

theorem v20_apply (j : Fin 1024) : val_main_v20 x0 x1 x2 x3 x4 x5 x6 (ix2 i j)
    = nrm (fun j => val_main_v7 x0 x1 x2 x3 x4 x5 (ix2 i j)) (fun j => x6 (ix1 j)) j := by
  unfold val_main_v20 val_main_v17 val_main_v16 val_main_v15 val_main_v14 val_main_v12 val_main_v10 val_main_v9 val_main_v8
  generalize val_main_v7 x0 x1 x2 x3 x4 x5 = X
  pointwise [val_main_v19, val_main_v18, val_main_v13, val_main_v11, val_main_cst, val_main_cst_0, val_main_cst_1, nrm]

theorem v25_apply (k : Fin 2816) : val_main_v25 x0 x1 x2 x3 x4 x5 x6 x7 (ix2 i k)
    = siluAct (fun l k => x7 (ix2 l k)) (fun j => val_main_v20 x0 x1 x2 x3 x4 x5 x6 (ix2 i j)) k := by
  unfold val_main_v25 val_main_v24 val_main_call0_v5 val_main_call0_v3 val_main_call0_v1 val_main_call0_v0 val_main_v23
    val_main_v22 val_main_v21
  generalize val_main_v20 x0 x1 x2 x3 x4 x5 x6 = X
  pointwise [val_main_call0_v4, val_main_call0_v2, val_main_call0_cst, val_main_call0_cst_0, siluAct, siluGlu, col]

theorem v27_apply (j : Fin 1024) : val_main_v27 x0 x1 x2 x3 x4 x5 x6 x7 x8 (ix2 i j)
    = upd (fun j => val_main_v7 x0 x1 x2 x3 x4 x5 (ix2 i j)) (fun k => val_main_v25 x0 x1 x2 x3 x4 x5 x6 x7 (ix2 i k))
        (fun k j => x8 (ix2 k j)) j := by
  unfold val_main_v27 val_main_v26
  generalize val_main_v25 x0 x1 x2 x3 x4 x5 x6 x7 = X
  generalize val_main_v7 x0 x1 x2 x3 x4 x5 = Y
  pointwise [upd]

theorem v40_apply (j : Fin 1024) : val_main_v40 x0 x1 x2 x3 x4 x5 x6 x7 x8 x9 (ix2 i j)
    = nrm (fun j => val_main_v27 x0 x1 x2 x3 x4 x5 x6 x7 x8 (ix2 i j)) (fun j => x9 (ix1 j)) j := by
  unfold val_main_v40 val_main_v37 val_main_v36 val_main_v35 val_main_v34 val_main_v32 val_main_v30 val_main_v29 val_main_v28
  generalize val_main_v27 x0 x1 x2 x3 x4 x5 x6 x7 x8 = X
  pointwise [val_main_v39, val_main_v38, val_main_v33, val_main_v31, val_main_cst_2, val_main_cst_3, val_main_cst_4, nrm]

/-- The reference's result, a row of it. -/
theorem out_apply (j : Fin 1024) : val_main_v40 x0 x1 x2 x3 x4 x5 x6 x7 x8 x9 (ix2 i j)
    = ffnRow (siluAct fun l k => x7 (ix2 l k))
        (resid (fun j => x0 (ix2 i j)) (fun j => x1 (ix2 i j)) (fun j => x2 (ix2 i j)) (fun j => x3 (ix2 i j))
          (fun j => x4 (ix2 i ⟨j, by omega⟩)) (fun j => x4 (ix2 i ⟨1024 + j, by omega⟩)) (fun k j => x5 (ix2 k j)))
        (fun j => x6 (ix1 j)) (fun k j => x8 (ix2 k j)) (fun j => x9 (ix1 j)) j := by
  unfold ffnRow
  simp only [v40_apply, v27_apply, v25_apply, v20_apply, v7_apply]

end Cert.ReferenceIdeal.FfnRef

end
-- ==== Proof.FfnMath.lean ====
module

public import proofs.«01_k».proof.Proof.FfnSpec
public import Idealize.ShloMosaic.Lib.IdealHost

@[expose] public section

noncomputable section

namespace Cert.Ffn

open Idealize.ShloMosaic

/-- An extended real that is a real. -/
def IsR (x : EReal) : Prop := ∃ r : ℝ, x = r

theorem IsR.add {x y : EReal} : IsR x → IsR y → IsR (x + y) := by
  rintro ⟨a, rfl⟩ ⟨b, rfl⟩; exact ⟨a + b, rfl⟩

theorem IsR.mul {x y : EReal} : IsR x → IsR y → IsR (x * y) := by
  rintro ⟨a, rfl⟩ ⟨b, rfl⟩; exact ⟨a * b, rfl⟩

theorem coe_sum {n : Nat} (f : Fin n → ℝ) : (∑ k, (f k : EReal)) = ((∑ k, f k : ℝ) : EReal) :=
  (map_sum (⟨⟨Real.toEReal, rfl⟩, fun _ _ => rfl⟩ : ℝ →+ EReal) f Finset.univ).symm

theorem IsR.sum {n : Nat} {f : Fin n → EReal} (h : ∀ k, IsR (f k)) : IsR (∑ k, f k) := by
  choose r hr using h
  exact ⟨∑ k, r k, by rw [← coe_sum]; exact Finset.sum_congr rfl fun k _ => hr k⟩

theorem width : Ideal.ofBits .f32 0x44800000#32 = ((1024 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem eps : ∃ e : ℝ, 0 < e ∧ Ideal.ofBits .f32 0x358637BD#32 = (e : EReal) := by
  refine ⟨8796093 / 8796093022208, by positivity, ?_⟩
  simp [Ideal.ofBits, Ideal.ieee, -EReal.coe_mul]; norm_num

/-- A mean of squares plus a positive number has a real reciprocal root. -/
theorem IsR.nrm {x g : Fin 1024 → EReal} (hx : ∀ k, IsR (x k)) (hg : ∀ k, IsR (g k)) (j : Fin 1024) : IsR (nrm x g j) := by
  refine ((hx j).mul ?_).mul (hg j)
  choose r hr using hx
  obtain ⟨e, he, hee⟩ := eps
  rw [hee, width, Ideal.div_coe (by norm_num), Finset.sum_congr rfl fun k _ => by rw [hr k, ← EReal.coe_mul], coe_sum,
    ← EReal.coe_mul, ← EReal.coe_add, Ideal.rsqrt_coe]
  have hs : 0 ≤ ∑ k, r k * r k := Finset.sum_nonneg fun k _ => mul_self_nonneg _
  have hp : 0 < (∑ k, r k * r k) * (1 / 1024) + e := by positivity
  rw [if_neg hp.not_gt, if_neg hp.ne']
  exact ⟨_, rfl⟩

theorem IsR.mix {ca hf hb cb yb : EReal} (h1 : IsR ca) (h2 : IsR hf) (h3 : IsR hb) (h4 : IsR cb) (h5 : IsR yb) :
    IsR (mix ca hf hb cb yb) := (h1.mul (h2.add h3)).add (h4.mul h5)

theorem IsR.resid {x hf hb yb ca cb : Fin 1024 → EReal} {wo : Fin 1024 → Fin 1024 → EReal} (h0 : ∀ k, IsR (x k))
    (h1 : ∀ k, IsR (hf k)) (h2 : ∀ k, IsR (hb k)) (h3 : ∀ k, IsR (yb k)) (h4 : ∀ k, IsR (ca k)) (h5 : ∀ k, IsR (cb k))
    (h6 : ∀ k j, IsR (wo k j)) (j : Fin 1024) : IsR (resid x hf hb yb ca cb wo j) :=
  (h0 j).add (IsR.sum fun k => (IsR.mix (h4 k) (h1 k) (h2 k) (h5 k) (h3 k)).mul (h6 k j))

/-- Half a gate through `tanh` is the gate by its logistic function. -/
theorem real_glu (g : ℝ) : g / 2 * Real.tanh (g / 2) + g / 2 = g * (1 / (1 + Real.exp (-g))) := by
  have hE := Real.exp_pos (g / 2)
  have h1 : Real.exp (-(g / 2)) = (Real.exp (g / 2))⁻¹ := Real.exp_neg _
  have h2 : Real.exp (-g) = (Real.exp (g / 2))⁻¹ * (Real.exp (g / 2))⁻¹ := by
    rw [← h1, ← Real.exp_add]; congr 1; ring
  rw [Real.tanh_eq_sinh_div_cosh, Real.sinh_eq, Real.cosh_eq, h1, h2]
  generalize Real.exp (g / 2) = E at hE
  field_simp
  ring

/-- The kernel's gated product of half a gate is the reference's of the gate. -/
theorem glu_eq (g : ℝ) (u : EReal) : halfGlu ((g / 2 : ℝ) : EReal) u = siluGlu g u := by
  unfold halfGlu siluGlu
  congr 1
  have hp : 0 < 1 + Real.exp (-g) := by positivity
  rw [Ideal.tanh_coe, Ideal.ofBits_one_f32, ← EReal.coe_neg, Ideal.exp_coe, ← EReal.coe_one, ← EReal.coe_add,
    Ideal.div_coe hp.ne', ← EReal.coe_mul, ← EReal.coe_mul, ← EReal.coe_mul, ← EReal.coe_add, real_glu, one_mul]

theorem act_eq (wi : Fin 1024 → Fin 5632 → EReal) (xn : Fin 1024 → EReal) (hw : ∀ l k, IsR (wi l k)) (hx : ∀ l, IsR (xn l)) :
    halfAct wi xn = siluAct wi xn := by
  choose a ha using hx
  choose b hb using hw
  funext k
  have e1 : (col xn fun l => wi l ⟨k, by omega⟩) = ((∑ l, a l * b l ⟨k, by omega⟩ : ℝ) : EReal) := by
    rw [← coe_sum]; exact Finset.sum_congr rfl fun l _ => by simp only [ha, hb]; rw [← EReal.coe_mul]
  have e2 : (col xn fun l => wi l ⟨k, by omega⟩ * Ideal.ofBits .f32 0x3F000000#32)
      = (((∑ l, a l * b l ⟨k, by omega⟩) / 2 : ℝ) : EReal) := by
    rw [Finset.sum_div, ← coe_sum]
    exact Finset.sum_congr rfl fun l _ => by
      simp only [ha, hb]; rw [half, ← EReal.coe_mul, ← EReal.coe_mul]; congr 1; ring
  unfold halfAct siluAct
  rw [e1, e2, glu_eq, Ideal.ofBits_one_f32]
  simp only [mul_one]

/-- The two rows are one. -/
theorem ffnRow_eq (wi : Fin 1024 → Fin 5632 → EReal) (x1 g2 : Fin 1024 → EReal) (wd : Fin 2816 → Fin 1024 → EReal)
    (g3 : Fin 1024 → EReal) (hw : ∀ l k, IsR (wi l k)) (hx : ∀ k, IsR (x1 k)) (hg : ∀ k, IsR (g2 k)) :
    ffnRow (halfAct wi) x1 g2 wd g3 = ffnRow (siluAct wi) x1 g2 wd g3 := by
  unfold ffnRow
  rw [act_eq wi _ hw fun l => IsR.nrm hx hg l]

/-- The test of the precondition: an element whose absolute value is less than infinity is a real. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | coe r => exact ⟨r, rfl⟩
  | bot => simp [Ideal.cmp] at h
  | top => simp [Ideal.cmp] at h

end Cert.Ffn

end
-- ==== Proof.FfnPre.lean ====
module

public import proofs.«01_k».proof.Proof.Gen.Pre_finite
public import proofs.«01_k».proof.Proof.FfnMath
public import Idealize.ShloMosaic.Lib.ReduceAll

@[expose] public section

noncomputable section

namespace Cert.Pre_finite.FfnPre

open Cert.Pre_finite Cert.Pre_finite.Gen Idealize.ShloMosaic Cert.Ffn

variable {x0 x1 x2 x3 : FVec Ideal S16384x1024 .f32} {x4 : FVec Ideal S16384x2048 .f32} {x5 : FVec Ideal S1024x1024 .f32}
  {x6 : FVec Ideal S1024 .f32} {x7 : FVec Ideal S1024x5632 .f32} {x8 : FVec Ideal S2816x1024 .f32} {x9 : FVec Ideal S1024 .f32}

instance : Subsingleton S_.Idx := ⟨fun _ _ => funext fun a => a.elim0⟩

/-- A conjunction of two tests that is 1. -/
theorem both {p q : IVec S_ 1} {i : S_.Idx} (h : andi p q i = 1#1) : p i = 1#1 ∧ q i = 1#1 := IntOp.andi_eq_one.1 h

/-- What the precondition says: the first eight arrays hold reals. -/
theorem reals (h : fn (F := Ideal) x0 x1 x2 x3 x4 x5 x6 x7 x8 x9 = fun _ => 1#1) :
    ((∀ i, IsR (x0 i)) ∧ (∀ i, IsR (x1 i)) ∧ (∀ i, IsR (x2 i)) ∧ (∀ i, IsR (x3 i))) ∧
      (∀ i, IsR (x4 i)) ∧ (∀ i, IsR (x5 i)) ∧ (∀ i, IsR (x6 i)) ∧ ∀ i, IsR (x7 i) := by
  have e := congrFun h (fun a => a.elim0)
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨⟨fun i => isR_of_lt (Host.reduce_andi_all _ _ _ _ _ e0 i), fun i => isR_of_lt (Host.reduce_andi_all _ _ _ _ _ e1 i),
    fun i => isR_of_lt (Host.reduce_andi_all _ _ _ _ _ e2 i), fun i => isR_of_lt (Host.reduce_andi_all _ _ _ _ _ e3 i)⟩,
    fun i => isR_of_lt (Host.reduce_andi_all _ _ _ _ _ e4 i), fun i => isR_of_lt (Host.reduce_andi_all _ _ _ _ _ e5 i),
    fun i => isR_of_lt (Host.reduce_andi_all _ _ _ _ _ e6 i), fun i => isR_of_lt (Host.reduce_andi_all _ _ _ _ _ e7 i)⟩

end Cert.Pre_finite.FfnPre

end
-- ==== Proof.ProjSpec.lean ====
module

public import proofs.«01_k».proof.Proof.FfnSpec

@[expose] public section

noncomputable section

namespace Cert.Proj

open Idealize.ShloMosaic Cert.Ffn

/-- The reference's logistic function. -/
def logis (z : EReal) : EReal :=
  Ideal.div (Ideal.ofBits .f32 0x3F800000#32) (Ideal.ofBits .f32 0x3F800000#32 + Ideal.exp (-z))

/-- The reference's smooth gate. -/
def gelu (g : EReal) : EReal :=
  g * (Ideal.ofBits .f32 0x3F000000#32 * (Ideal.ofBits .f32 0x3F800000#32 + Ideal.tanh
    (Ideal.ofBits .f32 0x3F4C422A#32 * (g + Ideal.ofBits .f32 0x3D372713#32 * (g * g * g)))))

/-- A query of the reference: the projected value by the two scales. -/
def scaled (q : EReal) : EReal := q * Ideal.ofBits .f32 0x3E000000#32 * Ideal.ofBits .f32 0x3FB8AA3B#32

/-- The kernel's logistic function, by `tanh` of half the argument. -/
def tlogis (z : EReal) : EReal :=
  Ideal.ofBits .f32 0x3F000000#32 * Ideal.tanh (Ideal.ofBits .f32 0x3F000000#32 * z) + Ideal.ofBits .f32 0x3F000000#32

/-- The kernel's smooth gate, its cubic term's coefficient `k`. -/
def tgelu (k g : EReal) : EReal :=
  Ideal.ofBits .f32 0x3F000000#32 * g * Ideal.tanh (g * (k * (g * g) + Ideal.ofBits .f32 0x3F4C422A#32))
    + Ideal.ofBits .f32 0x3F000000#32 * g

end Cert.Proj

end
-- ==== Proof.ProjKernel.lean ====
module

public import proofs.«01_k».proof.Proof.Gen.Kernel2Ideal.Skeleton.P01
public import proofs.«01_k».proof.Proof.ProjSpec
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj

/-- A block's normed rows through 256 columns of the weight. -/
def blockDot (xn : FVec Ideal S1024x1024 .bf16) (w : FVec Ideal S1024x256 .bf16) : FVec Ideal S1024x256 .f32 :=
  matmul dot_S1024x1024_S1024x256_S1024x256_1_0_0_1_n_n none xn (shapeCast S1024x256 w shapeCasts_S1024x256_S1024x256)
    (constant S1024x256 .f32 0x00000000#32)

/-- The projected block by the queries' scale. -/
def blockQ (xn : FVec Ideal S1024x1024 .bf16) (w : FVec Ideal S1024x256 .bf16) : FVec Ideal S1024x256 .bf16 :=
  truncf .bf16 (mulf (blockDot xn w) (broadcast S1024x256 (Scalar.ofBits .f32 0x3E38AA3B#32))) bitsLt_bf16_f32

/-- The projected block as it is. -/
def blockKV (xn : FVec Ideal S1024x1024 .bf16) (w : FVec Ideal S1024x256 .bf16) : FVec Ideal S1024x256 .bf16 :=
  truncf .bf16 (blockDot xn w) bitsLt_bf16_f32

/-- The logistic function of the projected block plus its bias. -/
def blockGate (xn : FVec Ideal S1024x1024 .bf16) (w : FVec Ideal S1024x256 .bf16) (b : FVec Ideal S1x256 .f32) : FVec Ideal S1024x256 .f32 :=
  addf (mulf (broadcast S1024x256 (Scalar.ofBits .f32 0x3F000000#32))
    (tanh (mulf (broadcast S1024x256 (Scalar.ofBits .f32 0x3F000000#32))
      (addf (blockDot xn w) (broadcastTo S1024x256 (shapeCast S1x256 b shapeCasts_S1x256_S1x256) broadcasts_S1x256_S1024x256)))))
    (broadcast S1024x256 (Scalar.ofBits .f32 0x3F000000#32))

/-- The smooth gate of a projected block, its cubic term's coefficient `k`. -/
def smooth (k : Ideal .f32) (g : FVec Ideal S1024x256 .f32) : FVec Ideal S1024x256 .f32 :=
  addf (mulf (mulf (broadcast S1024x256 (Scalar.ofBits .f32 0x3F000000#32)) g)
    (tanh (mulf g (addf (mulf (broadcast S1024x256 k) (mulf g g)) (broadcast S1024x256 (Scalar.ofBits .f32 0x3F4C422A#32))))))
    (mulf (broadcast S1024x256 (Scalar.ofBits .f32 0x3F000000#32)) g)

/-- The gated block: the logistic function of one set of columns times the smooth gate of another. -/
def blockGated (k : Ideal .f32) (xn : FVec Ideal S1024x1024 .bf16) (wz : FVec Ideal S1024x256 .bf16) (b : FVec Ideal S1x256 .f32)
    (wg : FVec Ideal S1024x256 .bf16) : FVec Ideal S1024x256 .f32 := mulf (blockGate xn wz b) (smooth k (blockDot xn wg))

variable (xn : FVec Ideal S1024x1024 .bf16) (w wg : FVec Ideal S1024x256 .bf16) (b : FVec Ideal S1x256 .f32) (r : Fin 1024) (j : Fin 256)

theorem blockDot_apply : blockDot xn w (ix2 r j) = col (fun k => xn (ix2 r k)) (fun k => w (ix2 k j)) := by
  pointwise [blockDot, col]

theorem blockQ_apply :
    blockQ xn w (ix2 r j) = col (fun k => xn (ix2 r k)) (fun k => w (ix2 k j)) * Ideal.ofBits .f32 0x3E38AA3B#32 := by
  rw [← blockDot_apply]
  unfold blockQ
  generalize blockDot xn w = X
  pointwise

theorem blockKV_apply : blockKV xn w (ix2 r j) = col (fun k => xn (ix2 r k)) (fun k => w (ix2 k j)) := by
  rw [← blockDot_apply]
  unfold blockKV
  generalize blockDot xn w = X
  pointwise

theorem blockGate_apply :
    blockGate xn w b (ix2 r j) = tlogis (col (fun k => xn (ix2 r k)) (fun k => w (ix2 k j)) + b (ix2 0 j)) := by
  rw [← blockDot_apply]
  unfold blockGate
  generalize blockDot xn w = X
  pointwise [tlogis]

theorem smooth_apply (k : Ideal .f32) (g : FVec Ideal S1024x256 .f32) : smooth k g (ix2 r j) = tgelu k (g (ix2 r j)) := by
  pointwise [smooth, tgelu]

theorem blockGated_apply (k : Ideal .f32) : blockGated k xn w b wg (ix2 r j)
    = tlogis (col (fun k => xn (ix2 r k)) (fun k => w (ix2 k j)) + b (ix2 0 j))
        * tgelu k (col (fun k => xn (ix2 r k)) (fun k => wg (ix2 k j))) := by
  rw [← blockGate_apply, ← blockDot_apply, ← smooth_apply]
  rfl

theorem normed_apply (g : Vec Ideal S1x1024 .f32) (x : Vec Ideal S1024x1024 .f32) (j : Fin 1024) :
    k0_pay3 g x (ix2 r j) = nrm (fun j => x (ix2 r j)) (fun j => g (ix2 0 j)) j := by
  pointwise [k0_pay3, k0_pay2, nrm]

end Cert.Kernel2Ideal.ProjValue

end
-- ==== Proof.ProjBlock.lean ====
module

public import proofs.«01_k».proof.Proof.Gen.Kernel2Ideal.Frame.Runs
public import proofs.«01_k».proof.Proof.ProjKernel

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ) (c : Dev nD)

/-- The cubic term's coefficient. -/
def kc : Ideal .f32 := Named.named (F := Ideal) Cert.Kernel2Ideal.κ "gelu_root_cube" (φ := .f32) 0x3D122279#32

theorem kc_eq : kc = ((80338380498831 / 2251799813685248 : ℝ) : EReal) :=
  IdealRules.named_const.ideal_named_scalar _ _ _ _ rfl

/-- Row `i` normed. -/
def normRow (i : Fin 16384) : Fin 1024 → EReal := nrm (fun j => m (c, main_arg0) (ix2 i j)) fun j => m (c, main_arg1) (ix1 j)

/-- Row `i` of the projection, column `n`. -/
def projRow (i : Fin 16384) (n : Fin 5632) : EReal := col (normRow m c i) fun k => m (c, main_arg2) (ix2 k n)

/-- A merge coefficient's logistic function. -/
def gateRow (i : Fin 16384) (n : Fin 2048) : EReal := tlogis (projRow m c i ⟨3584 + n, by omega⟩ + m (c, main_arg3) (ix1 n))

/-- The queries, keys, values and merge coefficients, of the arguments. -/
def GQ : (⟨S16384x1024, .bf16⟩ : BufTy).Contents (Elt Ideal) := fun i =>
  projRow m c (i 0) ⟨2048 + (i 1).val, by have h : (i 1).val < 1024 := (i 1).isLt; omega⟩ * Ideal.ofBits .f32 0x3E38AA3B#32

@[inherit_doc GQ]
def GK : (⟨S16384x256, .bf16⟩ : BufTy).Contents (Elt Ideal) := fun i =>
  projRow m c (i 0) ⟨3072 + (i 1).val, by have h : (i 1).val < 256 := (i 1).isLt; omega⟩

@[inherit_doc GQ]
def GV : (⟨S16384x256, .bf16⟩ : BufTy).Contents (Elt Ideal) := fun i =>
  projRow m c (i 0) ⟨3328 + (i 1).val, by have h : (i 1).val < 256 := (i 1).isLt; omega⟩

/-- A merge coefficient. -/
def coefRow (i : Fin 16384) (n : Fin 2048) : EReal :=
  if h : n.val < 1024 then gateRow m c i n * tgelu kc (projRow m c i ⟨1024 + n.val, by omega⟩) else gateRow m c i n

@[inherit_doc GQ]
def GC : (⟨S16384x2048, .f32⟩ : BufTy).Contents (Elt Ideal) := fun i => coefRow m c (i 0) (i 1)

theorem GC_apply (i : Fin 16384) (n : Fin 2048) : GC m c (ix2 i n) = coefRow m c i n := rfl

theorem idx : ∀ t : Fin grid0.N, win0_0.index t = ![t.val, 0] ∧ win0_3.index t = ![0, 0] ∧ win0_4.index t = ![0, 0] ∧
    win0_5.index t = ![0, 0] ∧ win0_9.index t = ![t.val, 0] ∧ win0_10.index t = ![t.val, 0] ∧ win0_11.index t = ![t.val, 0] ∧
    win0_12.index t = ![t.val, 0] := by
  decide +kernel

theorem V_v0 (z : Fin 1) (j : Fin 1024) : V m c main_v0 (ix2 z j) = m (c, main_arg1) (ix1 j) := by
  simp only [V, hostOps0, List.flatten_cons, List.flatten_nil, List.append_nil, List.cons_append, List.nil_append]
  entry_read
  pointwise

theorem V_v1 (k : Fin 1024) (n : Fin 5632) : V m c main_v1 (ix2 k n) = m (c, main_arg2) (ix2 k n) := by
  simp only [V, hostOps0, List.flatten_cons, List.flatten_nil, List.append_nil, List.cons_append, List.nil_append]
  entry_read
  pointwise

theorem V_v2 (z : Fin 1) (n : Fin 2048) : V m c main_v2 (ix2 z n) = m (c, main_arg3) (ix1 n) := by
  simp only [V, hostOps0, List.flatten_cons, List.flatten_nil, List.append_nil, List.cons_append, List.nil_append]
  entry_read
  pointwise

theorem read0 (t : Fin cfg0.N) (r j : Fin 1024) (i : Fin 16384) (hi : i.val = t.val * 1024 + r.val) :
    iblk m c 0 t (ix2 r j) = m (c, main_arg0) (ix2 i j) := by
  refine Eq.trans ?_ (congrFun (V_main_arg0 m c) (ix2 i j))
  blk_ext [iblk, idx t]

theorem read3 (t : Fin cfg0.N) (z : Fin 1) (j : Fin 1024) : iblk m c 3 t (ix2 z j) = m (c, main_arg1) (ix1 j) := by
  rw [← V_v0 m c z j]
  blk_ext [iblk, idx t]

theorem read4 (t : Fin cfg0.N) (k : Fin 1024) (n : Fin 5632) : iblk m c 4 t (ix2 k n) = m (c, main_arg2) (ix2 k n) := by
  rw [← V_v1 m c k n]
  blk_ext [iblk, idx t]

theorem read5 (t : Fin cfg0.N) (z : Fin 1) (n : Fin 2048) : iblk m c 5 t (ix2 z n) = m (c, main_arg3) (ix1 n) := by
  rw [← V_v2 m c z n]
  blk_ext [iblk, idx t]

/-- 256 columns of the weight, from column `o` on. -/
theorem weight (t : Fin cfg0.N) (o : Nat) (inb) (k : Fin 1024) (j : Fin 256) (n : Fin 5632) (hn : n.val = o + j.val) :
    View.ld (iblk m c 4 t) (Rect.unit ![0, o] S1024x256.size inb) (ix2 k j) = m (c, main_arg2) (ix2 k n) :=
  (View.ld_unit_apply_of _ _ _ _ _ (ix2 k n) (fun a => by
    fin_cases a
    · exact (Nat.zero_add _).symm
    · exact hn)).trans (read4 m c t k n)

/-- 256 entries of the bias, from entry `o` on. -/
theorem bias (t : Fin cfg0.N) (o : Nat) (inb) (z : Fin 1) (j : Fin 256) (n : Fin 2048) (hn : n.val = o + j.val) :
    View.ld (iblk m c 5 t) (Rect.unit ![0, o] S1x256.size inb) (ix2 z j) = m (c, main_arg3) (ix1 n) :=
  (View.ld_unit_apply_of _ _ _ _ _ (ix2 z n) (fun a => by
    fin_cases a
    · exact (Nat.zero_add _).symm
    · exact hn)).trans (read5 m c t z n)

/-- A block's normed rows. -/
def xn (t : Fin cfg0.N) : FVec Ideal S1024x1024 .bf16 := k0_pay3 (iblk m c 3 t) (iblk m c 0 t)

variable (t : Fin cfg0.N) (r : Fin 1024) (i : Fin 16384) (hi : i.val = t.val * 1024 + r.val)
include hi

theorem xn_row : (fun k => xn m c t (ix2 r k)) = normRow m c i := by
  funext j
  refine (normed_apply _ _ _ _).trans ?_
  simp only [read0 m c t r _ i hi, read3]
  rfl

theorem dot_row (o : Nat) (inb) (j : Fin 256) (n : Fin 5632) (hn : n.val = o + j.val) :
    col (fun k => xn m c t (ix2 r k)) (fun k => View.ld (iblk m c 4 t) (Rect.unit ![0, o] S1024x256.size inb) (ix2 k j))
      = projRow m c i n := by
  rw [xn_row m c t r i hi]
  simp only [weight m c t o inb _ j n hn]
  rfl

/-- A piece of the queries. -/
theorem q_row (o : Nat) (inb) (j : Fin 256) (p : Nat) (y : Fin 1024) (hy : y.val = p + j.val) (ho : o = 2048 + p) :
    blockQ (xn m c t) (View.ld (iblk m c 4 t) (Rect.unit ![0, o] S1024x256.size inb)) (ix2 r j) = GQ m c (ix2 i y) := by
  rw [blockQ_apply, dot_row m c t r i hi o inb j ⟨2048 + y.val, by omega⟩ (by show 2048 + y.val = _; omega)]
  rfl

/-- The keys' piece. -/
theorem k_row (inb) (j : Fin 256) :
    blockKV (xn m c t) (View.ld (iblk m c 4 t) (Rect.unit ![0, 3072] S1024x256.size inb)) (ix2 r j) = GK m c (ix2 i j) := by
  rw [blockKV_apply, dot_row m c t r i hi 3072 inb j ⟨3072 + j.val, by omega⟩ rfl]
  rfl

/-- The values' piece. -/
theorem v_row (inb) (j : Fin 256) :
    blockKV (xn m c t) (View.ld (iblk m c 4 t) (Rect.unit ![0, 3328] S1024x256.size inb)) (ix2 r j) = GV m c (ix2 i j) := by
  rw [blockKV_apply, dot_row m c t r i hi 3328 inb j ⟨3328 + j.val, by omega⟩ rfl]
  rfl

/-- A piece of the merge coefficients' first half. -/
theorem lo_row (o g p : Nat) (inb inb' inb'') (j : Fin 256) (y : Fin 2048) (hy : y.val = p + j.val) (hlt : p + 256 ≤ 1024)
    (ho : o = 3584 + p) (hg : g = 1024 + p) :
    blockGated kc (xn m c t) (View.ld (iblk m c 4 t) (Rect.unit ![0, o] S1024x256.size inb))
      (View.ld (iblk m c 5 t) (Rect.unit ![0, p] S1x256.size inb')) (View.ld (iblk m c 4 t) (Rect.unit ![0, g] S1024x256.size inb''))
      (ix2 r j) = GC m c (ix2 i y) := by
  have hlt' : y.val < 1024 := by omega
  rw [blockGated_apply, dot_row m c t r i hi o inb j ⟨3584 + y.val, by omega⟩ (by show 3584 + y.val = _; omega),
    dot_row m c t r i hi g inb'' j ⟨1024 + y.val, by omega⟩ (by show 1024 + y.val = _; omega), bias m c t p inb' 0 j y hy]
  rw [GC_apply, coefRow, dif_pos hlt']
  rfl

/-- A piece of the merge coefficients' second half. -/
theorem hi_row (o p : Nat) (inb inb') (j : Fin 256) (y : Fin 2048) (hy : y.val = p + j.val) (hge : 1024 ≤ p) (ho : o = 3584 + p) :
    blockGate (xn m c t) (View.ld (iblk m c 4 t) (Rect.unit ![0, o] S1024x256.size inb))
      (View.ld (iblk m c 5 t) (Rect.unit ![0, p] S1x256.size inb')) (ix2 r j) = GC m c (ix2 i y) := by
  have hge' : ¬ y.val < 1024 := by omega
  rw [blockGate_apply, dot_row m c t r i hi o inb j ⟨3584 + y.val, by omega⟩ (by show 3584 + y.val = _; omega),
    bias m c t p inb' 0 j y hy]
  rw [GC_apply, coefRow, dif_neg hge']
  rfl

end Cert.Kernel2Ideal.ProjValue

end
-- ==== Proof.ProjValue.lean ====
module

public import proofs.«01_k».proof.Proof.Gen.Kernel2Ideal.Frame
public import proofs.«01_k».proof.Proof.ProjBlock
public import Idealize.ShloMosaic.Lib.Tactic.Stretches
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ) (c : Dev nD)

section pieces

variable (t : Fin cfg0.N)

/-- A row of a block is a row of the whole. -/
theorem row_of (r : Fin 1024) : ∃ i : Fin 16384, i.val = t.val * 1024 + r.val := by
  have h : t.val < 16 := t.isLt
  exact ⟨⟨t.val * 1024 + r.val, by omega⟩, rfl⟩

/-- The queries' columns `p` to `p + 255`. -/
theorem q_piece (p o : Nat) (inb inb') (hp : p + 256 ≤ 1024) (ho : o = 2048 + p)
    (x : (Rect.unit (s := S1024x1024) ![0, p] ![1024, 256] inb).shape.Idx) :
    blockQ (xn m c t) (View.ld (iblk m c 4 t) (Rect.unit ![0, o] S1024x256.size inb')) x =
      GQ m c (((View.whole main_v5_1).slice (win0_9.rect t)).emb ((Rect.unit (s := S1024x1024) ![0, p] ![1024, 256] inb).emb x)) := by
  obtain ⟨r, j, rfl⟩ : ∃ (r : Fin 1024) (j : Fin 256), x = ix2 r j := ⟨x 0, x 1, eq_ix2 x⟩
  obtain ⟨i, hi⟩ := row_of t r
  obtain ⟨y, hy⟩ : ∃ y : Fin 1024, y.val = p + j.val := ⟨⟨p + j.val, by omega⟩, rfl⟩
  have he : ((View.whole main_v5_1).slice (win0_9.rect t)).emb ((Rect.unit (s := S1024x1024) ![0, p] ![1024, 256] inb).emb (ix2 r j))
      = ix2 i y := by blk_ext [idx t]
  rw [he]
  exact q_row m c t r i hi o inb' j p y hy ho

/-- The keys' only piece. -/
theorem k_piece (inb inb') (x : (Rect.unit (s := S1024x256) ![0, 0] ![1024, 256] inb).shape.Idx) :
    blockKV (xn m c t) (View.ld (iblk m c 4 t) (Rect.unit ![0, 3072] S1024x256.size inb')) x =
      GK m c (((View.whole main_v5_2).slice (win0_10.rect t)).emb ((Rect.unit (s := S1024x256) ![0, 0] ![1024, 256] inb).emb x)) := by
  obtain ⟨r, j, rfl⟩ : ∃ (r : Fin 1024) (j : Fin 256), x = ix2 r j := ⟨x 0, x 1, eq_ix2 x⟩
  obtain ⟨i, hi⟩ := row_of t r
  have he : ((View.whole main_v5_2).slice (win0_10.rect t)).emb ((Rect.unit (s := S1024x256) ![0, 0] ![1024, 256] inb).emb (ix2 r j))
      = ix2 i j := by blk_ext [idx t]
  rw [he]
  exact k_row m c t r i hi inb' j

/-- The values' only piece. -/
theorem v_piece (inb inb') (x : (Rect.unit (s := S1024x256) ![0, 0] ![1024, 256] inb).shape.Idx) :
    blockKV (xn m c t) (View.ld (iblk m c 4 t) (Rect.unit ![0, 3328] S1024x256.size inb')) x =
      GV m c (((View.whole main_v5_3).slice (win0_11.rect t)).emb ((Rect.unit (s := S1024x256) ![0, 0] ![1024, 256] inb).emb x)) := by
  obtain ⟨r, j, rfl⟩ : ∃ (r : Fin 1024) (j : Fin 256), x = ix2 r j := ⟨x 0, x 1, eq_ix2 x⟩
  obtain ⟨i, hi⟩ := row_of t r
  have he : ((View.whole main_v5_3).slice (win0_11.rect t)).emb ((Rect.unit (s := S1024x256) ![0, 0] ![1024, 256] inb).emb (ix2 r j))
      = ix2 i j := by blk_ext [idx t]
  rw [he]
  exact v_row m c t r i hi inb' j

theorem coef_emb (p : Nat) (inb) (r : Fin 1024) (j : Fin 256) (i : Fin 16384) (hi : i.val = t.val * 1024 + r.val) (y : Fin 2048)
    (hy : y.val = p + j.val) : ((View.whole main_v5_4).slice (win0_12.rect t)).emb
      ((Rect.unit (s := S1024x2048) ![0, p] ![1024, 256] inb).emb (ix2 r j)) = ix2 i y := by blk_ext [idx t]

/-- The merge coefficients' columns `p` to `p + 255`, of the first half. -/
theorem lo_piece (p o g : Nat) (inb inb' inb'' inb''') (hlt : p + 256 ≤ 1024) (ho : o = 3584 + p) (hg : g = 1024 + p)
    (x : (Rect.unit (s := S1024x2048) ![0, p] ![1024, 256] inb).shape.Idx) :
    blockGated kc (xn m c t) (View.ld (iblk m c 4 t) (Rect.unit ![0, o] S1024x256.size inb'))
        (View.ld (iblk m c 5 t) (Rect.unit ![0, p] S1x256.size inb''))
        (View.ld (iblk m c 4 t) (Rect.unit ![0, g] S1024x256.size inb''')) x =
      GC m c (((View.whole main_v5_4).slice (win0_12.rect t)).emb ((Rect.unit (s := S1024x2048) ![0, p] ![1024, 256] inb).emb x)) := by
  obtain ⟨r, j, rfl⟩ : ∃ (r : Fin 1024) (j : Fin 256), x = ix2 r j := ⟨x 0, x 1, eq_ix2 x⟩
  obtain ⟨i, hi⟩ := row_of t r
  obtain ⟨y, hy⟩ : ∃ y : Fin 2048, y.val = p + j.val := ⟨⟨p + j.val, by omega⟩, rfl⟩
  rw [coef_emb t p inb r j i hi y hy]
  exact lo_row m c t r i hi o g p inb' inb'' inb''' j y hy hlt ho hg

/-- The merge coefficients' columns `p` to `p + 255`, of the second half. -/
theorem hi_piece (p o : Nat) (inb inb' inb'') (hge : 1024 ≤ p) (hp : p + 256 ≤ 2048) (ho : o = 3584 + p)
    (x : (Rect.unit (s := S1024x2048) ![0, p] ![1024, 256] inb).shape.Idx) :
    blockGate (xn m c t) (View.ld (iblk m c 4 t) (Rect.unit ![0, o] S1024x256.size inb'))
        (View.ld (iblk m c 5 t) (Rect.unit ![0, p] S1x256.size inb'')) x =
      GC m c (((View.whole main_v5_4).slice (win0_12.rect t)).emb ((Rect.unit (s := S1024x2048) ![0, p] ![1024, 256] inb).emb x)) := by
  obtain ⟨r, j, rfl⟩ : ∃ (r : Fin 1024) (j : Fin 256), x = ix2 r j := ⟨x 0, x 1, eq_ix2 x⟩
  obtain ⟨i, hi⟩ := row_of t r
  obtain ⟨y, hy⟩ : ∃ y : Fin 2048, y.val = p + j.val := ⟨⟨p + j.val, by omega⟩, rfl⟩
  rw [coef_emb t p inb r j i hi y hy]
  exact hi_row m c t r i hi o p inb' inb'' j y hy hge ho

end pieces

theorem final_q : (dats m 0 c).arrAt 9 cfg0.N = GQ m c := by
  refine (dats m 0 c).arrAt_eq_of_covers 9 _ (by decide +kernel) fun t hf y => ?_
  blk_simp
  rw [after0_9]
  unfold outsAt0
  dsimp only
  unfold out0_A_9
  refine View.read_writes_apply_of_pieces _ _ (fun y => GQ m c ((win0_9.blk t).view.emb y)) _ ?_ y (cover0_A_9 ..)
  delta kernelRun0_A
  dsimp only
  sl_open_run
  simp (disch := decide) only [View.readAt_eq_ld, Memref.IsWhole.read_unread, View.ld_unit_lit']
  simp only [List.forall_mem_cons]
  exact ⟨q_piece m c t 768 2816 _ _ (by decide) rfl, q_piece m c t 512 2560 _ _ (by decide) rfl,
    q_piece m c t 256 2304 _ _ (by decide) rfl, q_piece m c t 0 2048 _ _ (by decide) rfl, List.forall_mem_nil _⟩

theorem final_k : (dats m 0 c).arrAt 10 cfg0.N = GK m c := by
  refine (dats m 0 c).arrAt_eq_of_covers 10 _ (by decide +kernel) fun t hf y => ?_
  blk_simp
  rw [after0_10]
  unfold outsAt0
  dsimp only
  unfold out0_A_10
  refine View.read_writes_apply_of_pieces _ _ (fun y => GK m c ((win0_10.blk t).view.emb y)) _ ?_ y (cover0_A_10 ..)
  delta kernelRun0_A
  dsimp only
  sl_open_run
  simp (disch := decide) only [View.readAt_eq_ld, Memref.IsWhole.read_unread, View.ld_unit_lit']
  simp only [List.forall_mem_cons]
  exact ⟨k_piece m c t _ _, List.forall_mem_nil _⟩

theorem final_v : (dats m 0 c).arrAt 11 cfg0.N = GV m c := by
  refine (dats m 0 c).arrAt_eq_of_covers 11 _ (by decide +kernel) fun t hf y => ?_
  blk_simp
  rw [after0_11]
  unfold outsAt0
  dsimp only
  unfold out0_A_11
  refine View.read_writes_apply_of_pieces _ _ (fun y => GV m c ((win0_11.blk t).view.emb y)) _ ?_ y (cover0_A_11 ..)
  delta kernelRun0_A
  dsimp only
  sl_open_run
  simp (disch := decide) only [View.readAt_eq_ld, Memref.IsWhole.read_unread, View.ld_unit_lit']
  simp only [List.forall_mem_cons]
  exact ⟨v_piece m c t _ _, List.forall_mem_nil _⟩

theorem final_coef : (dats m 0 c).arrAt 12 cfg0.N = GC m c := by
  refine (dats m 0 c).arrAt_eq_of_covers 12 _ (by decide +kernel) fun t hf y => ?_
  blk_simp
  rw [after0_12]
  unfold outsAt0
  dsimp only
  unfold out0_A_12
  refine View.read_writes_apply_of_pieces _ _ (fun y => GC m c ((win0_12.blk t).view.emb y)) _ ?_ y (cover0_A_12 ..)
  delta kernelRun0_A
  dsimp only
  sl_open_run
  simp (disch := decide) only [View.readAt_eq_ld, Memref.IsWhole.read_unread, View.ld_unit_lit']
  simp only [List.forall_mem_cons]
  exact ⟨hi_piece m c t 1792 5376 _ _ _ (by decide) (by decide) rfl, hi_piece m c t 1536 5120 _ _ _ (by decide) (by decide) rfl,
    hi_piece m c t 1280 4864 _ _ _ (by decide) (by decide) rfl, hi_piece m c t 1024 4608 _ _ _ (by decide) (by decide) rfl,
    lo_piece m c t 768 4352 1792 _ _ _ _ (by decide) rfl rfl, lo_piece m c t 512 4096 1536 _ _ _ _ (by decide) rfl rfl,
    lo_piece m c t 256 3840 1280 _ _ _ _ (by decide) rfl rfl, lo_piece m c t 0 3584 1024 _ _ _ _ (by decide) rfl rfl,
    List.forall_mem_nil _⟩

end Cert.Kernel2Ideal.ProjValue

end
-- ==== Proof.ProjSlab.lean ====
module

public import proofs.«01_k».proof.Proof.Gen.Kernel2Ideal.Skeleton.P01
public import proofs.«01_k».proof.Proof.ProjSpec
public import Idealize.ShloMosaic.Lib.Pipeline.CanonAppend
public import Idealize.ShloMosaic.Lib.Pipeline.FrameBody
public import Idealize.ShloMosaic.Lib.Pipeline.ValueKit
public import Idealize.ShloMosaic.Lib.Pointwise

@[expose] public section

set_option maxRecDepth 16384

noncomputable section

namespace Cert.Kernel2Ideal.ProjSlab

open Cert.Kernel2Ideal Cert.Kernel2Ideal.Gen Idealize.ShloMosaic Idealize.ShloMosaic.TcCoe Idealize.SL.Sem Cert.Ffn Cert.Proj

/-- A store of 128 columns of a tile of eight rows into the slab `s`. -/
abbrev blk (V : FVec Ideal S8x1024 .f32) (s r o : Nat) (hi : ∀ a, (![s, r, 0] : Fin 3 → Nat) a + S1x8x128.size a ≤ S16x64x128.size a)
    (hs : S8x1024.Slices ![0, o] S8x128) : View.Piece (Elt Ideal) S16x64x128 .f32 :=
  ⟨Rect.unit ![s, r, 0] S1x8x128.size hi,
    shapeCast S1x8x128 (extractStridedSlice S8x128 ![0, o] V hs) shapeCasts_S8x128_S1x8x128⟩

/-- A store of row `r` of every column block of the slab `s`. -/
abbrev row (x : FVec Ideal S8x128 .f32) (s r : Nat)
    (hi : ∀ a, S1x8x128.size a = 0 ∨ (![s, r, 0] : Fin 3 → Nat) a + (![1, 8, 1] : Fin 3 → Nat) a * (S1x8x128.size a - 1) < S16x64x128.size a) :
    View.Piece (Elt Ideal) S16x64x128 .f32 :=
  ⟨⟨⟨![s, r, 0], S1x8x128.size, ![1, 8, 1], hi⟩, spos_1_8_1⟩, shapeCast S1x8x128 x shapeCasts_S8x128_S1x8x128⟩

/-- A load of a column block of the slab `s`. -/
abbrev got (v : View sig Kind.tc .vmem S16x64x128 .f32) (L : List (View.Piece (Elt Ideal) S16x64x128 .f32)) (s r : Nat)
    (hi : ∀ a, (![s, r, 0] : Fin 3 → Nat) a + S1x8x128.size a ≤ S16x64x128.size a) : FVec Ideal S8x128 .f32 :=
  shapeCast S8x128 (v.readCov L (Rect.unit (s := S16x64x128) ![s, r, 0] S1x8x128.size hi).toLoadRect) shapeCasts_S1x8x128_S8x128

/-- The convolution's sum of four rows. -/
abbrev tap (w0 w1 w2 w3 cb a b c d : FVec Ideal S8x128 .f32) : FVec Ideal S8x128 .f32 :=
  addf (addf (addf (mulf a w0) (mulf b w1)) (addf (mulf c w2) (mulf d w3))) cb

/-- Row `R` of `E`, as eight blocks of 128 columns. -/
def RowIs (E : Nat → Nat → EReal) (R : Nat) (x : FVec Ideal S8x128 .f32) : Prop :=
  ∀ (j : Fin 8) (l : Fin 128), x (ix2 j l) = E R (j.val * 128 + l.val)

theorem rows_inb {T : Nat} (hT : T + 8 ≤ 1024) : ∀ a, (![T, 0] : Fin 2 → Nat) a + S8x1024.size a ≤ S1024x1024.size a := by
  intro a
  fin_cases a
  · exact hT
  · exact Nat.le_refl 1024

theorem ext_inb {o : Nat} (ho : o + 8 ≤ 1040) : ∀ a, (![o, 0] : Fin 2 → Nat) a + S8x1024.size a ≤ S1040x1024.size a := by
  intro a
  fin_cases a
  · exact ho
  · exact Nat.le_refl 1024

/-- A plane of eight blocks of 128 columns of eight rows, as one function of the index into the slabs. -/
def plane (F : Fin 8 → Fin 8 → Fin 128 → EReal) (y : S16x64x128.Idx) : EReal :=
  F ⟨(y 1).val % 8, Nat.mod_lt _ (by decide)⟩
    ⟨(y 1).val / 8, Nat.div_lt_of_lt_mul (show (y 1).val < 8 * 8 from (y 1).isLt)⟩ ⟨(y 2).val, (y 2).isLt⟩

theorem plane_eq (F : Fin 8 → Fin 8 → Fin 128 → EReal) (y : S16x64x128.Idx) (a j : Fin 8) (l : Fin 128)
    (h1 : (y 1).val = 8 * j.val + a.val) (h2 : (y 2).val = l.val) : plane F y = F a j l := by
  have e1 : (⟨(y 1).val % 8, Nat.mod_lt _ (by decide)⟩ : Fin 8) = a := Fin.ext (by show (y 1).val % 8 = a.val; omega)
  have e2 : (⟨(y 1).val / 8, Nat.div_lt_of_lt_mul (show (y 1).val < 8 * 8 from (y 1).isLt)⟩ : Fin 8) = j :=
    Fin.ext (by show (y 1).val / 8 = j.val; omega)
  have e3 : (⟨(y 2).val, (y 2).isLt⟩ : Fin 128) = l := Fin.ext h2
  unfold plane
  rw [e1, e2, e3]

theorem cast_up (x : FVec Ideal S8x128 .f32) (z : S1x8x128.Idx) :
    shapeCast S1x8x128 x shapeCasts_S8x128_S1x8x128 z = x (ix2 (n0 := 8) (n1 := 128) (z 1) (z 2)) :=
  (shapeCast_addUnit_apply ![8, 128] x shapeCasts_S8x128_S1x8x128 z).trans
    (congrArg x (funext fun b => by fin_cases b <;> rfl))

theorem blk_ok (F : Fin 8 → Fin 8 → Fin 128 → EReal) (V : FVec Ideal S8x1024 .f32)
    (hF : ∀ (a j : Fin 8) (l : Fin 128) (n : Fin 1024), n.val = j.val * 128 + l.val → V (ix2 a n) = F a j l)
    (s r o : Nat) (hi) (hs) (j : Fin 8) (hr : r = 8 * j.val) (ho : o = j.val * 128) :
    ∀ z : (blk V s r o hi hs).1.shape.Idx, (blk V s r o hi hs).2 z = plane F ((blk V s r o hi hs).1.emb z) := by
  intro z
  have hz1 : (z 1).val < 8 := (z 1).isLt
  have hz2 : (z 2).val < 128 := (z 2).isLt
  have hn : o + (z 2).val < 1024 := by have := j.isLt; omega
  refine Eq.trans ?_ (plane_eq F _ ⟨(z 1).val, hz1⟩ j ⟨(z 2).val, hz2⟩ ?_ ?_).symm
  · refine (cast_up (extractStridedSlice S8x128 ![0, o] V hs) z).trans (Eq.trans ?_ (hF ⟨(z 1).val, hz1⟩ j ⟨(z 2).val, hz2⟩ ⟨o + (z 2).val, hn⟩ (congrArg (· + (z 2).val) ho)))
    refine extractStridedSlice_apply _ _ _ _ _ fun b => ?_
    fin_cases b
    · exact (Nat.zero_add _).symm
    · rfl
  · show r + 1 * (z 1).val = 8 * j.val + (z 1).val
    omega
  · show 0 + 1 * (z 2).val = (z 2).val
    omega

theorem row_ok (F : Fin 8 → Fin 8 → Fin 128 → EReal) (x : FVec Ideal S8x128 .f32) (s r : Nat) (hi) (a : Fin 8) (hr : r = a.val)
    (hF : ∀ (j : Fin 8) (l : Fin 128), x (ix2 j l) = F a j l) :
    ∀ z : (row x s r hi).1.shape.Idx, (row x s r hi).2 z = plane F ((row x s r hi).1.emb z) := by
  intro z
  have hz1 : (z 1).val < 8 := (z 1).isLt
  have hz2 : (z 2).val < 128 := (z 2).isLt
  refine Eq.trans ?_ (plane_eq F _ a ⟨(z 1).val, hz1⟩ ⟨(z 2).val, hz2⟩ ?_ ?_).symm
  · exact (cast_up _ z).trans (hF ⟨(z 1).val, hz1⟩ ⟨(z 2).val, hz2⟩)
  · show r + 8 * (z 1).val = 8 * (z 1).val + a.val
    omega
  · show 0 + 1 * (z 2).val = (z 2).val
    omega

theorem canon8 (G : S16x64x128.Idx → EReal) {p0 p1 p2 p3 p4 p5 p6 p7 : View.Piece (Elt Ideal) S16x64x128 .f32}
    (rest : List (View.Piece (Elt Ideal) S16x64x128 .f32)) (y : S16x64x128.Idx)
    (k7 : ∀ x : p7.1.shape.Idx, p7.2 x = G (p7.1.emb x)) (k6 : ∀ x : p6.1.shape.Idx, p6.2 x = G (p6.1.emb x))
    (k5 : ∀ x : p5.1.shape.Idx, p5.2 x = G (p5.1.emb x)) (k4 : ∀ x : p4.1.shape.Idx, p4.2 x = G (p4.1.emb x))
    (k3 : ∀ x : p3.1.shape.Idx, p3.2 x = G (p3.1.emb x)) (k2 : ∀ x : p2.1.shape.Idx, p2.2 x = G (p2.1.emb x))
    (k1 : ∀ x : p1.1.shape.Idx, p1.2 x = G (p1.1.emb x)) (k0 : ∀ x : p0.1.shape.Idx, p0.2 x = G (p0.1.emb x))
    (hy : y ∈ p7.1.set ∨ y ∈ p6.1.set ∨ y ∈ p5.1.set ∨ y ∈ p4.1.set ∨ y ∈ p3.1.set ∨ y ∈ p2.1.set ∨ y ∈ p1.1.set ∨ y ∈ p0.1.set) :
    View.canon (p7 :: p6 :: p5 :: p4 :: p3 :: p2 :: p1 :: p0 :: rest) y = G y := by
  refine View.canon_append_of_pieces G rest [p7, p6, p5, p4, p3, p2, p1, p0] ?_ y ?_
  · simp only [List.forall_mem_cons, List.not_mem_nil, false_imp_iff, implies_true, and_true]
    exact ⟨k7, k6, k5, k4, k3, k2, k1, k0⟩
  · simpa only [List.exists_mem_cons_iff, List.not_mem_nil, false_and, exists_false, or_false] using hy

theorem blk_mem (V : FVec Ideal S8x1024 .f32) (s r o : Nat) (hi) (hs) (y : S16x64x128.Idx) (h0 : (y 0).val = s)
    {j w : Nat} (h1 : (y 1).val = 8 * j + w) (hw : w < 8) (hr : r = 8 * j) : y ∈ (blk V s r o hi hs).1.set := by
  refine (LoadRect.mem_set _).2 fun b => ?_
  match b with
  | ⟨0, _⟩ => exact ⟨0, Nat.one_pos, show (y 0).val = s + 1 * 0 by omega⟩
  | ⟨1, _⟩ => exact ⟨(y 1).val - r, show (y 1).val - r < 8 by omega, show (y 1).val = r + 1 * ((y 1).val - r) by omega⟩
  | ⟨2, _⟩ => exact ⟨(y 2).val, (y 2).isLt, show (y 2).val = 0 + 1 * (y 2).val by omega⟩

theorem row_mem (x : FVec Ideal S8x128 .f32) (s r : Nat) (hi) (y : S16x64x128.Idx) (h0 : (y 0).val = s)
    {j w : Nat} (h1 : (y 1).val = 8 * j + w) (hw : w < 8) (hr : w = r) : y ∈ (row x s r hi).1.set := by
  have hy : (y 1).val < 64 := (y 1).isLt
  refine (LoadRect.mem_set _).2 fun b => ?_
  match b with
  | ⟨0, _⟩ => exact ⟨0, Nat.one_pos, show (y 0).val = s + 1 * 0 by omega⟩
  | ⟨1, _⟩ => exact ⟨(y 1).val / 8, show (y 1).val / 8 < 8 by omega, show (y 1).val = r + 8 * ((y 1).val / 8) by omega⟩
  | ⟨2, _⟩ => exact ⟨(y 2).val, (y 2).isLt, show (y 2).val = 0 + 1 * (y 2).val by omega⟩

theorem cast_down (f : S1x8x128.Idx → EReal) (j : Fin 8) (l : Fin 128) :
    ∃ z : S1x8x128.Idx, (z 0).val = 0 ∧ (z 1).val = j.val ∧ (z 2).val = l.val ∧
      shapeCast S8x128 f shapeCasts_S1x8x128_S8x128 (ix2 j l) = f z :=
  ⟨Fin.cons ⟨0, Nat.one_pos⟩ (ix2 j l), rfl, rfl, rfl, shapeCast_dropUnit_apply ![8, 128] f shapeCasts_S1x8x128_S8x128 (ix2 j l)⟩

theorem row_is {E : Nat → Nat → EReal} {v14 : View sig Kind.tc .vmem S1040x1024 .f32} {L0 : List (View.Piece (Elt Ideal) S1040x1024 .f32)}
    (hE : ∀ (o : Nat) (ho : o + 8 ≤ 1040) (a : Fin 8) (n : Fin 1024),
      v14.readCov L0 (Rect.unit (s := S1040x1024) ![o, 0] S8x1024.size (ext_inb ho)).toLoadRect (ix2 a n) = E (o + a.val) n.val)
    {v : View sig Kind.tc .vmem S16x64x128 .f32} {L rest : List (View.Piece (Elt Ideal) S16x64x128 .f32)} {V : FVec Ideal S8x1024 .f32}
    {s w o R : Nat} {h0 h1 h2 h3 h4 h5 h6 h7 hw} (ho : o + 8 ≤ 1040)
    (hL : L = blk V s 56 896 h7 slices_S8x1024_o0_896_S8x128 :: blk V s 48 768 h6 slices_S8x1024_o0_768_S8x128 ::
      blk V s 40 640 h5 slices_S8x1024_o0_640_S8x128 :: blk V s 32 512 h4 slices_S8x1024_o0_512_S8x128 ::
      blk V s 24 384 h3 slices_S8x1024_o0_384_S8x128 :: blk V s 16 256 h2 slices_S8x1024_o0_256_S8x128 ::
      blk V s 8 128 h1 slices_S8x1024_o0_128_S8x128 :: blk V s 0 0 h0 slices_S8x1024_o0_0_S8x128 :: rest)
    (hV : V = v14.readCov L0 (Rect.unit (s := S1040x1024) ![o, 0] S8x1024.size (ext_inb ho)).toLoadRect) (hR : R = o + w) :
    RowIs E R (shapeCast S8x128 (v.readCov L ⟨![s, w, 0], S1x8x128.size, ![1, 8, 1], hw⟩) shapeCasts_S1x8x128_S8x128) := by
  intro j l
  subst hL
  obtain ⟨z, hz0, hz1, hz2, hz⟩ := cast_down (v.readCov (blk V s 56 896 h7 slices_S8x1024_o0_896_S8x128 :: blk V s 48 768 h6 slices_S8x1024_o0_768_S8x128 ::
      blk V s 40 640 h5 slices_S8x1024_o0_640_S8x128 :: blk V s 32 512 h4 slices_S8x1024_o0_512_S8x128 ::
      blk V s 24 384 h3 slices_S8x1024_o0_384_S8x128 :: blk V s 16 256 h2 slices_S8x1024_o0_256_S8x128 ::
      blk V s 8 128 h1 slices_S8x1024_o0_128_S8x128 :: blk V s 0 0 h0 slices_S8x1024_o0_0_S8x128 :: rest)
        ⟨![s, w, 0], S1x8x128.size, ![1, 8, 1], hw⟩) j l
  rw [hz, View.readCov_eq_canon']
  have hw8 : w + 8 * 7 < 64 := (hw 1).resolve_left (by decide)
  have hwlt : w < 8 := by omega
  let F : Fin 8 → Fin 8 → Fin 128 → EReal := fun a j l => E (o + a.val) (j.val * 128 + l.val)
  have hF : ∀ (a j : Fin 8) (l : Fin 128) (n : Fin 1024), n.val = j.val * 128 + l.val → V (ix2 a n) = F a j l := by
    intro a j l n hn
    rw [hV, hE o ho a n, hn]
  have hy0 : ((LoadRect.idx (⟨![s, w, 0], S1x8x128.size, ![1, 8, 1], hw⟩ : LoadRect S16x64x128) z) 0).val = s := by
    show s + 1 * (z 0).val = s
    omega
  have hy1 : ((LoadRect.idx (⟨![s, w, 0], S1x8x128.size, ![1, 8, 1], hw⟩ : LoadRect S16x64x128) z) 1).val = 8 * j.val + w := by
    show w + 8 * (z 1).val = 8 * j.val + w
    omega
  have hy2 : ((LoadRect.idx (⟨![s, w, 0], S1x8x128.size, ![1, 8, 1], hw⟩ : LoadRect S16x64x128) z) 2).val = l.val := by
    show 0 + 1 * (z 2).val = l.val
    omega
  refine (canon8 (plane F) rest _ (blk_ok F V hF _ _ _ _ _ 7 rfl rfl) (blk_ok F V hF _ _ _ _ _ 6 rfl rfl) (blk_ok F V hF _ _ _ _ _ 5 rfl rfl) (blk_ok F V hF _ _ _ _ _ 4 rfl rfl) (blk_ok F V hF _ _ _ _ _ 3 rfl rfl) (blk_ok F V hF _ _ _ _ _ 2 rfl rfl) (blk_ok F V hF _ _ _ _ _ 1 rfl rfl) (blk_ok F V hF _ _ _ _ _ 0 rfl rfl) ?_).trans ?_
  · have h8 : j.val = 7 ∨ j.val = 6 ∨ j.val = 5 ∨ j.val = 4 ∨ j.val = 3 ∨ j.val = 2 ∨ j.val = 1 ∨ j.val = 0 := by have := j.isLt; omega
    exact (h8.imp (fun h => blk_mem V s _ _ _ _ _ hy0 hy1 hwlt (congrArg (8 * ·) h).symm) (Or.imp (fun h => blk_mem V s _ _ _ _ _ hy0 hy1 hwlt (congrArg (8 * ·) h).symm) (Or.imp (fun h => blk_mem V s _ _ _ _ _ hy0 hy1 hwlt (congrArg (8 * ·) h).symm) (Or.imp (fun h => blk_mem V s _ _ _ _ _ hy0 hy1 hwlt (congrArg (8 * ·) h).symm) (Or.imp (fun h => blk_mem V s _ _ _ _ _ hy0 hy1 hwlt (congrArg (8 * ·) h).symm) (Or.imp (fun h => blk_mem V s _ _ _ _ _ hy0 hy1 hwlt (congrArg (8 * ·) h).symm) (Or.imp (fun h => blk_mem V s _ _ _ _ _ hy0 hy1 hwlt (congrArg (8 * ·) h).symm) (fun h => blk_mem V s _ _ _ _ _ hy0 hy1 hwlt (congrArg (8 * ·) h).symm))))))))
  · rw [plane_eq F _ ⟨w, hwlt⟩ j l hy1 hy2, hR]

/-- A column block read back is the plane there, once the eight rows of the slab are stored. -/
theorem got_ok (F : Fin 8 → Fin 8 → Fin 128 → EReal) {v : View sig Kind.tc .vmem S16x64x128 .f32}
    {L rest : List (View.Piece (Elt Ideal) S16x64x128 .f32)} {y0 y1 y2 y3 y4 y5 y6 y7 : FVec Ideal S8x128 .f32}
    {s : Nat} {h0 h1 h2 h3 h4 h5 h6 h7}
    (hL : L = row y7 s 7 h7 :: row y6 s 6 h6 :: row y5 s 5 h5 :: row y4 s 4 h4 ::
      row y3 s 3 h3 :: row y2 s 2 h2 :: row y1 s 1 h1 :: row y0 s 0 h0 :: rest)
    (q0 : ∀ j l, y0 (ix2 j l) = F 0 j l) (q1 : ∀ j l, y1 (ix2 j l) = F 1 j l) (q2 : ∀ j l, y2 (ix2 j l) = F 2 j l)
    (q3 : ∀ j l, y3 (ix2 j l) = F 3 j l) (q4 : ∀ j l, y4 (ix2 j l) = F 4 j l) (q5 : ∀ j l, y5 (ix2 j l) = F 5 j l)
    (q6 : ∀ j l, y6 (ix2 j l) = F 6 j l) (q7 : ∀ j l, y7 (ix2 j l) = F 7 j l)
    (r : Nat) (g) (j : Fin 8) (hr : r = 8 * j.val) (a : Fin 8) (l : Fin 128) : got v L s r g (ix2 a l) = F a j l := by
  subst hL
  obtain ⟨z, hz0, hz1, hz2, hz⟩ := cast_down (v.readCov (row y7 s 7 h7 :: row y6 s 6 h6 :: row y5 s 5 h5 :: row y4 s 4 h4 ::
      row y3 s 3 h3 :: row y2 s 2 h2 :: row y1 s 1 h1 :: row y0 s 0 h0 :: rest)
        (Rect.unit (s := S16x64x128) ![s, r, 0] S1x8x128.size g).toLoadRect) a l
  refine hz.trans ?_
  rw [View.readCov_eq_canon']
  have hy0 : (((Rect.unit (s := S16x64x128) ![s, r, 0] S1x8x128.size g).toLoadRect.idx z) 0).val = s := by
    show s + 1 * (z 0).val = s
    omega
  have hy1 : (((Rect.unit (s := S16x64x128) ![s, r, 0] S1x8x128.size g).toLoadRect.idx z) 1).val = 8 * j.val + a.val := by
    show r + 1 * (z 1).val = 8 * j.val + a.val
    omega
  have hy2 : (((Rect.unit (s := S16x64x128) ![s, r, 0] S1x8x128.size g).toLoadRect.idx z) 2).val = l.val := by
    show 0 + 1 * (z 2).val = l.val
    omega
  refine (canon8 (plane F) rest _ (row_ok F _ _ _ _ 7 rfl q7) (row_ok F _ _ _ _ 6 rfl q6) (row_ok F _ _ _ _ 5 rfl q5) (row_ok F _ _ _ _ 4 rfl q4) (row_ok F _ _ _ _ 3 rfl q3) (row_ok F _ _ _ _ 2 rfl q2) (row_ok F _ _ _ _ 1 rfl q1) (row_ok F _ _ _ _ 0 rfl q0) ?_).trans (plane_eq F _ a j l hy1 hy2)
  · have h8 : a.val = 7 ∨ a.val = 6 ∨ a.val = 5 ∨ a.val = 4 ∨ a.val = 3 ∨ a.val = 2 ∨ a.val = 1 ∨ a.val = 0 := by have := a.isLt; omega
    exact (h8.imp (fun h => row_mem _ s _ _ _ hy0 hy1 a.isLt h) (Or.imp (fun h => row_mem _ s _ _ _ hy0 hy1 a.isLt h) (Or.imp (fun h => row_mem _ s _ _ _ hy0 hy1 a.isLt h) (Or.imp (fun h => row_mem _ s _ _ _ hy0 hy1 a.isLt h) (Or.imp (fun h => row_mem _ s _ _ _ hy0 hy1 a.isLt h) (Or.imp (fun h => row_mem _ s _ _ _ hy0 hy1 a.isLt h) (Or.imp (fun h => row_mem _ s _ _ _ hy0 hy1 a.isLt h) (fun h => row_mem _ s _ _ _ hy0 hy1 a.isLt h))))))))

theorem tile_is {E : Nat → Nat → EReal} {v : View sig Kind.tc .vmem S16x64x128 .f32}
    {L rest : List (View.Piece (Elt Ideal) S16x64x128 .f32)} {w0 w1 w2 w3 cb x0 x1 x2 x3 x4 x5 x6 x7 x8 x9 x10 : FVec Ideal S8x128 .f32}
    {s T : Nat} {h0 h1 h2 h3 h4 h5 h6 h7 g0 g1 g2 g3 g4 g5 g6 g7} (G : Fin 1024 → Fin 1024 → EReal)
    (hG : ∀ (r n : Fin 1024) (j : Fin 8) (l : Fin 128), n.val = j.val * 128 + l.val →
      G r n = E (r.val + 6) n * w0 (ix2 j l) + E (r.val + 7) n * w1 (ix2 j l)
        + (E (r.val + 8) n * w2 (ix2 j l) + E (r.val + 9) n * w3 (ix2 j l)) + cb (ix2 j l))
    (hL : L = row (tap w0 w1 w2 w3 cb x7 x8 x9 x10) s 7 h7 :: row (tap w0 w1 w2 w3 cb x6 x7 x8 x9) s 6 h6 ::
      row (tap w0 w1 w2 w3 cb x5 x6 x7 x8) s 5 h5 :: row (tap w0 w1 w2 w3 cb x4 x5 x6 x7) s 4 h4 ::
      row (tap w0 w1 w2 w3 cb x3 x4 x5 x6) s 3 h3 :: row (tap w0 w1 w2 w3 cb x2 x3 x4 x5) s 2 h2 ::
      row (tap w0 w1 w2 w3 cb x1 x2 x3 x4) s 1 h1 :: row (tap w0 w1 w2 w3 cb x0 x1 x2 x3) s 0 h0 :: rest)
    (q0 : RowIs E (T + 6) x0) (q1 : RowIs E (T + 7) x1) (q2 : RowIs E (T + 8) x2) (q3 : RowIs E (T + 9) x3)
    (q4 : RowIs E (T + 10) x4) (q5 : RowIs E (T + 11) x5) (q6 : RowIs E (T + 12) x6) (q7 : RowIs E (T + 13) x7)
    (q8 : RowIs E (T + 14) x8) (q9 : RowIs E (T + 15) x9) (q10 : RowIs E (T + 16) x10)
    (P : S1024x1024.Idx → EReal) (hP : ∀ r n, P (ix2 r n) = G r n) (hT : T + 8 ≤ 1024) :
    ∀ x : (Rect.unit (s := S1024x1024) ![T, 0] S8x1024.size (rows_inb hT)).shape.Idx,
      concatenate (α := EReal) S8x1024 1 [⟨S8x128, got v L s 0 g0⟩, ⟨S8x128, got v L s 8 g1⟩, ⟨S8x128, got v L s 16 g2⟩,
        ⟨S8x128, got v L s 24 g3⟩, ⟨S8x128, got v L s 32 g4⟩, ⟨S8x128, got v L s 40 g5⟩, ⟨S8x128, got v L s 48 g6⟩,
        ⟨S8x128, got v L s 56 g7⟩] concatenates_S8x128_S8x128_S8x128_S8x128_S8x128_S8x128_S8x128_S8x128_S8x1024_d1 x
        = P ((Rect.unit (s := S1024x1024) ![T, 0] S8x1024.size (rows_inb hT)).emb x) := by
  intro x
  have hx0 : (x 0).val < 8 := (x 0).isLt
  have hx1 : (x 1).val < 1024 := (x 1).isLt
  let F : Fin 8 → Fin 8 → Fin 128 → EReal := fun a j l =>
    G ⟨T + a.val, by have := a.isLt; omega⟩ ⟨j.val * 128 + l.val, by have := j.isLt; have := l.isLt; omega⟩
  have key : ∀ (a : Fin 8) (y b0 b1 b2 b3 : FVec Ideal S8x128 .f32), y = tap w0 w1 w2 w3 cb b0 b1 b2 b3 →
      RowIs E (T + a.val + 6) b0 → RowIs E (T + a.val + 7) b1 → RowIs E (T + a.val + 8) b2 → RowIs E (T + a.val + 9) b3 →
      ∀ j l, y (ix2 j l) = F a j l := by
    intro a y b0 b1 b2 b3 hy e0 e1 e2 e3 j l
    refine Eq.trans ?_ (hG _ _ j l rfl).symm
    show y (ix2 j l) = E (T + a.val + 6) (j.val * 128 + l.val) * w0 (ix2 j l) + E (T + a.val + 7) (j.val * 128 + l.val) * w1 (ix2 j l)
        + (E (T + a.val + 8) (j.val * 128 + l.val) * w2 (ix2 j l) + E (T + a.val + 9) (j.val * 128 + l.val) * w3 (ix2 j l)) + cb (ix2 j l)
    rw [← e0 j l, ← e1 j l, ← e2 j l, ← e3 j l, hy]
    rfl
  have hgot := fun r g j hr => got_ok (v := v) F hL (key 0 _ x0 x1 x2 x3 rfl q0 q1 q2 q3) (key 1 _ x1 x2 x3 x4 rfl q1 q2 q3 q4)
    (key 2 _ x2 x3 x4 x5 rfl q2 q3 q4 q5) (key 3 _ x3 x4 x5 x6 rfl q3 q4 q5 q6) (key 4 _ x4 x5 x6 x7 rfl q4 q5 q6 q7)
    (key 5 _ x5 x6 x7 x8 rfl q5 q6 q7 q8) (key 6 _ x6 x7 x8 x9 rfl q6 q7 q8 q9) (key 7 _ x7 x8 x9 x10 rfl q7 q8 q9 q10) r g j hr
  let f : Fin 8 → (S8x128.Idx → EReal) := ![got v L s 0 g0, got v L s 8 g1, got v L s 16 g2, got v L s 24 g3, got v L s 32 g4,
    got v L s 40 g5, got v L s 48 g6, got v L s 56 g7]
  have hf : ∀ (j a : Fin 8) (l : Fin 128), f j (ix2 a l) = F a j l := by
    intro j
    match j with
    | ⟨0, _⟩ => exact hgot 0 g0 0 rfl
    | ⟨1, _⟩ => exact hgot 8 g1 1 rfl
    | ⟨2, _⟩ => exact hgot 16 g2 2 rfl
    | ⟨3, _⟩ => exact hgot 24 g3 3 rfl
    | ⟨4, _⟩ => exact hgot 32 g4 4 rfl
    | ⟨5, _⟩ => exact hgot 40 g5 5 rfl
    | ⟨6, _⟩ => exact hgot 48 g6 6 rfl
    | ⟨7, _⟩ => exact hgot 56 g7 7 rfl
  have hj : (x 1).val / 128 < 8 := by omega
  have hl : (x 1).val % 128 < 128 := Nat.mod_lt _ (by decide)
  refine (concatenate_ofFn_apply (t := S8x1024) 1 f concatenates_S8x128_S8x128_S8x128_S8x128_S8x128_S8x128_S8x128_S8x128_S8x1024_d1 rfl 128 rfl x
    ⟨(x 1).val / 128, hj⟩ rfl (ix2 ⟨(x 0).val, hx0⟩ ⟨(x 1).val % 128, hl⟩) rfl ?_).trans ?_
  · intro b hb
    match b with
    | ⟨0, _⟩ => rfl
    | ⟨1, _⟩ => exact absurd rfl hb
  · refine (hf _ _ _).trans (Eq.trans ?_ (hP ⟨T + (x 0).val, by omega⟩ ⟨(x 1).val, hx1⟩).symm |>.trans ?_)
    · exact congrArg (G _) (Fin.ext (by show (x 1).val / 128 * 128 + (x 1).val % 128 = (x 1).val; omega))
    · refine congrArg P (funext fun b => Fin.ext ?_)
      match b with
      | ⟨0, _⟩ => show T + (x 0).val = T + 1 * (x 0).val; omega
      | ⟨1, _⟩ => show (x 1).val = 0 + 1 * (x 1).val; omega

end Cert.Kernel2Ideal.ProjSlab

end
-- ==== Proof.ProjConv.lean ====
module

public import proofs.«01_k».proof.Proof.Gen.Kernel2Ideal.Frame
public import proofs.«01_k».proof.Proof.ProjSlab
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg7 : Memref sig .tc .vmem S4x8x128 .f32) (harg7 : arg7.IsWhole)
  (arg8 : Memref sig .tc .vmem S8x128 .f32) (harg8 : arg8.IsWhole)
  (arg14 : Memref sig .tc .vmem S1040x1024 .f32) (arg15 : Memref sig .tc .vmem S16x64x128 .f32)
  (x0 : Vec Ideal S1024x1024 .f32) (x1 : Vec Ideal S8x1024 .f32) (x2 : Vec Ideal S8x1024 .f32) (x3 : Vec Ideal S1x1024 .f32) (x4 : Vec Ideal S1024x5632 .bf16) (x6 : Vec Ideal S4x8x128 .f32) (x7 : Vec Ideal S8x128 .f32)

/-- The extended rows are `E`, and `G` is what the four taps and the bias make of them, laid out as `P`. -/
structure Conv (E : Nat → Nat → EReal) (G : Fin 1024 → Fin 1024 → EReal) (P : S1024x1024.Idx → EReal) : Prop where
  ext : ∀ (o : Nat) (ho : o + 8 ≤ 1040) (a : Fin 8) (n : Fin 1024),
    arg14.view.readCov (sl.HS0_3 c i arg1 harg1 arg2 harg2 arg3 harg3 arg4 harg4 arg5 harg5 x0 x1 x2 x3 x4)
      (Rect.unit (s := S1040x1024) ![o, 0] S8x1024.size (ProjSlab.ext_inb ho)).toLoadRect (ix2 a n) = E (o + a.val) n.val
  sum : ∀ (r n : Fin 1024) (j : Fin 8) (l : Fin 128), n.val = j.val * 128 + l.val →
    G r n = E (r.val + 6) n * sl.v67 c arg7 harg7 x6 (ix2 j l) + E (r.val + 7) n * sl.v71 c arg7 harg7 x6 (ix2 j l)
      + (E (r.val + 8) n * sl.v75 c arg7 harg7 x6 (ix2 j l) + E (r.val + 9) n * sl.v79 c arg7 harg7 x6 (ix2 j l))
      + sl.v83 c arg8 harg8 x7 (ix2 j l)
  out : ∀ r n, P (ix2 r n) = G r n

end Cert.Kernel2Ideal.ProjConv

end
-- ==== Proof.ProjExt.lean ====
module

public import proofs.«01_k».proof.Proof.ProjKernel

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj

/-- Sixteen rows of two halves of eight, normed but for the gains. -/
theorem halo_apply (a b : Vec Ideal S8x1024 .f32) (g : Fin 1024 → EReal) (h : Fin 16) (y : Fin 1024 → EReal)
    (hy : ∀ k, concatenate S16x1024 0 [⟨S8x1024, a⟩, ⟨S8x1024, b⟩] concatenates_S8x1024_S8x1024_S16x1024_d0 (ix2 h k) = y k)
    (k : Fin 1024) : k0_pay4 a b (ix2 h k) * g k = nrm y g k := by
  rw [show y = fun k => concatenate S16x1024 0 [⟨S8x1024, a⟩, ⟨S8x1024, b⟩] concatenates_S8x1024_S8x1024_S16x1024_d0 (ix2 h k) from
    funext fun k => (hy k).symm]
  unfold k0_pay4
  generalize concatenate S16x1024 0 [⟨S8x1024, a⟩, ⟨S8x1024, b⟩] concatenates_S8x1024_S8x1024_S16x1024_d0 = X
  pointwise [nrm]

theorem halo_lo (a b : Vec Ideal S8x1024 .f32) (h : Fin 16) (h' : Fin 8) (e : h.val = h'.val) (k : Fin 1024) :
    concatenate S16x1024 0 [⟨S8x1024, a⟩, ⟨S8x1024, b⟩] concatenates_S8x1024_S8x1024_S16x1024_d0 (ix2 h k) = a (ix2 h' k) := by
  refine concatenate_pair_apply_left (t := S16x1024) 0 a b _ _ rfl (ix2 h' k) fun b => ?_
  match b with
  | ⟨0, _⟩ => exact e.symm
  | ⟨1, _⟩ => rfl

theorem halo_hi (a b : Vec Ideal S8x1024 .f32) (h : Fin 16) (h' : Fin 8) (e : h.val = 8 + h'.val) (k : Fin 1024) :
    concatenate S16x1024 0 [⟨S8x1024, a⟩, ⟨S8x1024, b⟩] concatenates_S8x1024_S8x1024_S16x1024_d0 (ix2 h k) = b (ix2 h' k) := by
  refine concatenate_pair_apply_right (t := S16x1024) 0 a b _ _ rfl rfl (ix2 h' k) (fun b hb => ?_) ?_
  · match b with
    | ⟨0, _⟩ => exact absurd rfl hb
    | ⟨1, _⟩ => rfl
  · show h'.val + 8 = h.val
    omega

/-- The extended block: the block's normed rows, then the sixteen. -/
def extRows (g : FVec Ideal S1x1024 .f32) (xn : FVec Ideal S1024x1024 .bf16) (y : FVec Ideal S16x1024 .f32) : FVec Ideal S1040x1024 .bf16 :=
  concatenate S1040x1024 0 [⟨S1024x1024, xn⟩, ⟨S16x1024, truncf .bf16 (mulf y (broadcastTo S16x1024 g broadcasts_S1x1024_S16x1024)) bitsLt_bf16_f32⟩]
    concatenates_S1024x1024_S16x1024_S1040x1024_d0

theorem extRows_lo (g : FVec Ideal S1x1024 .f32) (xn : FVec Ideal S1024x1024 .bf16) (y : FVec Ideal S16x1024 .f32) (R : Fin 1040) (r k : Fin 1024) (e : R.val = r.val) : extRows g xn y (ix2 R k) = xn (ix2 r k) := by
  refine concatenate_pair_apply_left (t := S1040x1024) (s₁ := S1024x1024) (s₂ := S16x1024) 0 _ _ _ _ rfl (ix2 r k) fun b => ?_
  match b with
  | ⟨0, _⟩ => exact e.symm
  | ⟨1, _⟩ => rfl

theorem extRows_hi (g : FVec Ideal S1x1024 .f32) (xn : FVec Ideal S1024x1024 .bf16) (y : FVec Ideal S16x1024 .f32) (R : Fin 1040) (h : Fin 16) (k : Fin 1024) (e : R.val = 1024 + h.val) :
    extRows g xn y (ix2 R k) = y (ix2 h k) * g (ix2 0 k) := by
  refine (concatenate_pair_apply_right (t := S1040x1024) (s₁ := S1024x1024) (s₂ := S16x1024) 0 _ _ _ _ rfl rfl (ix2 h k) (fun b hb => ?_) ?_).trans ?_
  · match b with
    | ⟨0, _⟩ => exact absurd rfl hb
    | ⟨1, _⟩ => rfl
  · show h.val + 1024 = R.val
    omega
  · pointwise

theorem pay5_apply (g xn y) (w : Vec Ideal S1024x1024 .bf16) (R : Fin 1040) (n : Fin 1024) :
    k0_pay5 g xn y w (ix2 R n) = col (fun k => extRows g xn y (ix2 R k)) fun k => w (ix2 k n) := by
  show matmul dot_S1040x1024_S1024x1024_S1040x1024_1_0_0_1_n_n none (extRows g xn y)
    (shapeCast S1024x1024 w shapeCasts_S1024x1024_S1024x1024) (constant S1040x1024 .f32 0x00000000#32) (ix2 R n) = _
  generalize extRows g xn y = X
  pointwise [col]

theorem pay6_apply (g xn y) (w : Vec Ideal S1024x1024 .bf16) (r n : Fin 1024) (R : Fin 1040) (e : R.val = r.val) :
    k0_pay6 g xn y w (ix2 r n) = k0_pay5 g xn y w (ix2 R n) := by
  unfold k0_pay6
  generalize k0_pay5 g xn y w = X
  refine (congrFun (shapeCast_self _ _) _).trans (extractStridedSlice_apply _ _ _ _ _ fun b => ?_)
  match b with
  | ⟨0, _⟩ => exact e.trans (Nat.zero_add _).symm
  | ⟨1, _⟩ => exact (Nat.zero_add _).symm

theorem pay7_apply (v) (g xn y) (w : Vec Ideal S1024x1024 .bf16) (h : Fin 8) (n : Fin 1024) (R : Fin 1040) (e : R.val = 1024 + h.val) :
    k0_pay7 v g xn y w (ix2 h n) = if Scalar.cmpi .sgt v 0#32 = 1#1 then k0_pay5 g xn y w (ix2 R n) else 0 := by
  unfold k0_pay7
  generalize k0_pay5 g xn y w = X
  refine (congrFun (shapeCast_self _ _) _).trans ?_
  by_cases hc : Scalar.cmpi .sgt v 0#32 = 1#1
  · rw [if_pos hc, hc]
    refine extractStridedSlice_apply _ _ slices_S1040x1024_o1024_0_S8x1024 _ _ fun b => ?_
    match b with
    | ⟨0, _⟩ => exact e
    | ⟨1, _⟩ => exact (Nat.zero_add _).symm
  · rw [if_neg hc, show Scalar.cmpi .sgt v 0#32 = 0#1 from (BitVec.eq_zero_or_eq_one _).resolve_right hc]
    exact Ideal.ofBits_zero_f32

theorem pay8_apply (v) (g xn y) (w : Vec Ideal S1024x1024 .bf16) (h : Fin 8) (n : Fin 1024) (R : Fin 1040) (e : R.val = 1032 + h.val) :
    k0_pay8 v g xn y w (ix2 h n) = if Scalar.cmpi .slt v 7#32 = 1#1 then k0_pay5 g xn y w (ix2 R n) else 0 := by
  unfold k0_pay8
  generalize k0_pay5 g xn y w = X
  refine (congrFun (shapeCast_self _ _) _).trans ?_
  by_cases hc : Scalar.cmpi .slt v 7#32 = 1#1
  · rw [if_pos hc, hc]
    refine extractStridedSlice_apply _ _ slices_S1040x1024_o1032_0_S8x1024 _ _ fun b => ?_
    match b with
    | ⟨0, _⟩ => exact e
    | ⟨1, _⟩ => exact (Nat.zero_add _).symm
  · rw [if_neg hc, show Scalar.cmpi .slt v 7#32 = 0#1 from (BitVec.eq_zero_or_eq_one _).resolve_right hc]
    exact Ideal.ofBits_zero_f32

/-- Half a row of the convolution's weight. -/
theorem pay9_apply (w : Vec Ideal S1x8x128 .f32) (j : Fin 8) (l : Fin 128) :
    k0_pay9 w (ix2 j l) = Ideal.ofBits .f32 0x3F000000#32 * w (ix3 0 j l) := by pointwise [k0_pay9]
theorem pay10_apply (w : Vec Ideal S1x8x128 .f32) (j : Fin 8) (l : Fin 128) :
    k0_pay10 w (ix2 j l) = Ideal.ofBits .f32 0x3F000000#32 * w (ix3 0 j l) := by pointwise [k0_pay10]
theorem pay11_apply (w : Vec Ideal S1x8x128 .f32) (j : Fin 8) (l : Fin 128) :
    k0_pay11 w (ix2 j l) = Ideal.ofBits .f32 0x3F000000#32 * w (ix3 0 j l) := by pointwise [k0_pay11]
theorem pay12_apply (w : Vec Ideal S1x8x128 .f32) (j : Fin 8) (l : Fin 128) :
    k0_pay12 w (ix2 j l) = Ideal.ofBits .f32 0x3F000000#32 * w (ix3 0 j l) := by pointwise [k0_pay12]
theorem pay13_apply (b : Vec Ideal S8x128 .f32) (j : Fin 8) (l : Fin 128) :
    k0_pay13 b (ix2 j l) = Ideal.ofBits .f32 0x3F000000#32 * b (ix2 j l) := by pointwise [k0_pay13]

end Cert.Kernel2Ideal.ProjValue

end
-- ==== Proof.ProjRef.lean ====
module

public import proofs.«01_k».proof.Proof.Gen.Reference2Ideal.Read
public import proofs.«01_k».proof.Proof.ProjSpec
public import Idealize.ShloMosaic.Lib.Pointwise

@[expose] public section

set_option maxRecDepth 16384

noncomputable section

namespace Cert.Reference2Ideal.ProjRef

open Cert.Reference2Ideal Cert.Reference2Ideal.Read Idealize.ShloMosaic Cert.Ffn Cert.Proj

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S2048, .f32⟩ : BufTy).Contents (Elt Ideal)) (i : Fin 16384)

/-- The projection at column `n` of row `i`. -/
def proj (n : Fin 5632) : EReal :=
  col (nrm (fun j => x0 (ix2 i j)) (fun j => x1 (ix1 j))) fun l => x2 (ix2 l n)

theorem v12_apply (j : Fin 1024) : val_main_v12 x0 x1 (ix2 i j) = nrm (fun j => x0 (ix2 i j)) (fun j => x1 (ix1 j)) j := by
  unfold val_main_v12 val_main_v9 val_main_v8 val_main_v7 val_main_v6 val_main_v4 val_main_v2 val_main_v1 val_main_v0
  pointwise [val_main_v11, val_main_v10, val_main_v5, val_main_v3, val_main_cst, val_main_cst_0, val_main_cst_1, nrm]

theorem v13_apply (n : Fin 5632) : val_main_v13 x0 x1 x2 (ix2 i n) = proj x0 x1 x2 i n := by
  unfold proj
  rw [show nrm (fun j => x0 (ix2 i j)) (fun j => x1 (ix1 j)) = fun j => val_main_v12 x0 x1 (ix2 i j) from
    funext fun j => (v12_apply x0 x1 i j).symm]
  unfold val_main_v13
  generalize val_main_v12 x0 x1 = X
  pointwise [col]

theorem v85_apply (j : Fin 1024) : val_main_v85 x0 x1 x2 (ix2 i j) = scaled (proj x0 x1 x2 i ⟨2048 + j, by omega⟩) := by
  rw [← v13_apply]
  unfold val_main_v85 val_main_v84 val_main_v82 val_main_v16
  generalize val_main_v13 x0 x1 x2 = X
  pointwise [val_main_v83, val_main_v81, val_main_cst_9, val_main_cst_10, scaled]

theorem v86_apply (j : Fin 256) : val_main_v86 x0 x1 x2 (ix2 i j) = proj x0 x1 x2 i ⟨3072 + j, by omega⟩ := by
  rw [← v13_apply]
  unfold val_main_v86 val_main_v17
  generalize val_main_v13 x0 x1 x2 = X
  pointwise

theorem v87_apply (j : Fin 256) : val_main_v87 x0 x1 x2 (ix2 i j) = proj x0 x1 x2 i ⟨3328 + j, by omega⟩ := by
  rw [← v13_apply]
  unfold val_main_v87 val_main_v18
  generalize val_main_v13 x0 x1 x2 = X
  pointwise

theorem v61_apply (j : Fin 2048) :
    val_main_v61 x0 x1 x2 x3 (ix2 i j) = logis (proj x0 x1 x2 i ⟨3584 + j, by omega⟩ + x3 (ix1 j)) := by
  rw [← v13_apply]
  unfold val_main_v61 val_main_v59 val_main_v57 val_main_v56 val_main_v55 val_main_v19
  generalize val_main_v13 x0 x1 x2 = X
  pointwise [val_main_v60, val_main_v58, val_main_v54, val_main_v53, val_main_cst_2, val_main_cst_3, logis]

theorem v77_apply (j : Fin 1024) : val_main_v77 x0 x1 x2 x3 (ix2 i j)
    = val_main_v61 x0 x1 x2 x3 (ix2 i ⟨j, by omega⟩) * gelu (proj x0 x1 x2 i ⟨1024 + j, by omega⟩) := by
  rw [← v13_apply]
  unfold val_main_v77 val_main_v76 val_main_v75 val_main_v73 val_main_v71 val_main_v70 val_main_v68 val_main_v67 val_main_v65
    val_main_v64 val_main_v62 val_main_v15
  generalize val_main_v13 x0 x1 x2 = X
  generalize val_main_v61 x0 x1 x2 x3 = Y
  pointwise [val_main_v74, val_main_v72, val_main_v69, val_main_v66, val_main_cst_4, val_main_cst_5, val_main_cst_6,
    val_main_cst_7, gelu]

/-- The merge coefficients' first half. -/
theorem v78_lo (j : Fin 1024) : val_main_v78 x0 x1 x2 x3 (ix2 i ⟨j, by omega⟩)
    = logis (proj x0 x1 x2 i ⟨3584 + j, by omega⟩ + x3 (ix1 ⟨j, by omega⟩)) * gelu (proj x0 x1 x2 i ⟨1024 + j, by omega⟩) := by
  rw [show logis _ = _ from (v61_apply x0 x1 x2 x3 i ⟨j, by omega⟩).symm, ← v77_apply]
  unfold val_main_v78
  generalize val_main_v77 x0 x1 x2 x3 = X
  generalize val_main_v63 x0 x1 x2 x3 = Y
  pointwise

/-- The merge coefficients' second half. -/
theorem v78_hi (j : Fin 1024) : val_main_v78 x0 x1 x2 x3 (ix2 i ⟨1024 + j, by omega⟩)
    = logis (proj x0 x1 x2 i ⟨4608 + j, by omega⟩ + x3 (ix1 ⟨1024 + j, by omega⟩)) := by
  refine Eq.trans ?_ ((v61_apply x0 x1 x2 x3 i ⟨1024 + j, by omega⟩).trans ?_)
  · unfold val_main_v78 val_main_v63
    generalize val_main_v77 x0 x1 x2 x3 = X
    generalize val_main_v61 x0 x1 x2 x3 = Y
    pointwise
  · rw [show (⟨3584 + (1024 + j.val), by omega⟩ : Fin 5632) = ⟨4608 + j, by omega⟩ from Fin.ext (by show 3584 + (1024 + j.val) = 4608 + j.val; omega)]

end Cert.Reference2Ideal.ProjRef

end
-- ==== Proof.ProjNear.lean ====
module

public import proofs.«01_k».proof.Proof.ProjRef
public import proofs.«01_k».proof.Proof.FfnMath

@[expose] public section

set_option maxRecDepth 16384

noncomputable section

namespace Cert.Proj

open Idealize.ShloMosaic Cert.Ffn

/-- The entry `k` rows after the second before row `i`, of the same sequence of 8192; zero outside it. -/
def near (p : Fin 16384 → EReal) (i k : Nat) : EReal :=
  if h : 2 ≤ i % 8192 + k ∧ i % 8192 + k < 8194 ∧ i + k - 2 < 16384 then p ⟨i + k - 2, h.2.2⟩ else 0

/-- The reference's four taps and bias, halved. -/
def taps (p : Fin 16384 → EReal) (w : Fin 4 → EReal) (b : EReal) (i : Nat) : EReal :=
  Ideal.ofBits .f32 0x3F000000#32 * (near p i 0 * w 0 + near p i 1 * w 1 + near p i 2 * w 2 + near p i 3 * w 3 + b)

/-- Halving each weight and the bias halves the sum. -/
theorem halves (a0 a1 a2 a3 w0 w1 w2 w3 b : EReal) :
    a0 * (Ideal.ofBits .f32 0x3F000000#32 * w0) + a1 * (Ideal.ofBits .f32 0x3F000000#32 * w1)
        + (a2 * (Ideal.ofBits .f32 0x3F000000#32 * w2) + a3 * (Ideal.ofBits .f32 0x3F000000#32 * w3)) + Ideal.ofBits .f32 0x3F000000#32 * b
      = Ideal.ofBits .f32 0x3F000000#32 * (a0 * w0 + a1 * w1 + a2 * w2 + a3 * w3 + b) := by
  rw [half]
  have hd : ∀ a b : EReal, ((1 / 2 : ℝ) : EReal) * (a + b) = ((1 / 2 : ℝ) : EReal) * a + ((1 / 2 : ℝ) : EReal) * b := fun a b =>
    EReal.left_distrib_of_nonneg_of_ne_top (EReal.coe_nonneg.2 (by norm_num)) (EReal.coe_ne_top _) a b
  rw [hd, hd, hd, hd, mul_left_comm a0, mul_left_comm a1, mul_left_comm a2, mul_left_comm a3, add_assoc (_ + _) (_ * (a2 * _))]

end Cert.Proj

namespace Cert.Reference2Ideal.ProjRef

open Cert.Reference2Ideal Cert.Reference2Ideal.Read Idealize.ShloMosaic Cert.Ffn Cert.Proj

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x4 : (⟨S4x1024, .f32⟩ : BufTy).Contents (Elt Ideal))
  (x5 : (⟨S1024, .f32⟩ : BufTy).Contents (Elt Ideal))

theorem v20_apply (b : Fin 2) (s : Fin 8192) (n : Fin 1024) (i : Fin 16384) (hi : i.val = b.val * 8192 + s.val) :
    val_main_v20 x0 x1 x2 (ix3 b s n) = proj x0 x1 x2 i ⟨n, by omega⟩ := by
  rw [← v13_apply]
  unfold val_main_v20 val_main_v14
  generalize val_main_v13 x0 x1 x2 = X
  refine (Idealize.ShloMosaic.shapeCast_apply _ _ _ (ix2 i n) ?_).trans (extractStridedSlice_apply _ _ _ _ _ fun a => ?_)
  · rw [rowMajor_val2 _ 1024 rfl, rowMajor_val3 _ 8388608 1024 rfl rfl]
    show i.val * 1024 + n.val = b.val * 8388608 + s.val * 1024 + n.val
    omega
  · match a with
    | ⟨0, _⟩ => exact (Nat.zero_add _).symm
    | ⟨1, _⟩ => exact (Nat.zero_add _).symm

theorem v21_apply (b : Fin 2) (s : Fin 8192) (z : Fin 8195) (n : Fin 1024) (i : Fin 16384) (hi : i.val = b.val * 8192 + s.val) (k : Nat)
    (hz : z.val = s.val + k) : val_main_v21 x0 x1 x2 (ix3 b z n) = near (fun i => proj x0 x1 x2 i ⟨n, by omega⟩) i.val k := by
  have hs : i.val % 8192 = s.val := by omega
  unfold near
  by_cases h : 2 ≤ z.val ∧ z.val < 8194
  · rw [dif_pos ⟨by omega, by omega, by omega⟩]
    refine Eq.trans ?_ (v20_apply x0 x1 x2 b ⟨z.val - 2, by omega⟩ n ⟨i.val + k - 2, by omega⟩ (by show i.val + k - 2 = b.val * 8192 + (z.val - 2); omega))
    unfold val_main_v21
    generalize val_main_v20 x0 x1 x2 = X
    rw [pad_apply, dif_pos]
    · refine congrArg X (funext fun a => Fin.ext ?_)
      match a with
      | ⟨0, _⟩ => exact (Nat.div_one _).trans (Nat.sub_zero _)
      | ⟨1, _⟩ => exact Nat.div_one _
      | ⟨2, _⟩ => exact (Nat.div_one _).trans (Nat.sub_zero _)
    · intro a
      match a with
      | ⟨0, _⟩ => exact ⟨Nat.zero_le _, Nat.mod_one _, by show (b.val - 0) / 1 < 2; omega⟩
      | ⟨1, _⟩ => exact ⟨h.1, Nat.mod_one _, by show (z.val - 2) / 1 < 8192; omega⟩
      | ⟨2, _⟩ => exact ⟨Nat.zero_le _, Nat.mod_one _, by show (n.val - 0) / 1 < 1024; omega⟩
  · rw [dif_neg (by omega)]
    unfold val_main_v21
    generalize val_main_v20 x0 x1 x2 = X
    rw [pad_apply, dif_neg]
    · show ((((0#32 : BitVec 32).toInt : ℤ) : ℝ) : EReal) = 0
      simp
    · intro H
      have h1 : 2 ≤ z.val := (H 1).1
      have h2 : (z.val - 2) / 1 < 8192 := (H 1).2.2
      omega

theorem v51_apply (b : Fin 2) (s : Fin 8192) (n : Fin 1024) (i : Fin 16384) (hi : i.val = b.val * 8192 + s.val) :
    Ideal.ofBits .f32 0x3F000000#32 * val_main_v51 x0 x1 x2 x4 x5 (ix3 b s n)
      = taps (fun i => proj x0 x1 x2 i ⟨n, by omega⟩) (fun k => x4 (ix2 k n)) (x5 (ix1 n)) i.val := by
  unfold taps
  rw [← v21_apply x0 x1 x2 b s ⟨s.val, by omega⟩ n i hi 0 rfl, ← v21_apply x0 x1 x2 b s ⟨s.val + 1, by omega⟩ n i hi 1 rfl,
    ← v21_apply x0 x1 x2 b s ⟨s.val + 2, by omega⟩ n i hi 2 rfl, ← v21_apply x0 x1 x2 b s ⟨s.val + 3, by omega⟩ n i hi 3 rfl]
  unfold val_main_v51 val_main_v48 val_main_v41 val_main_v34 val_main_v47 val_main_v40 val_main_v33 val_main_v27 val_main_v42
    val_main_v35 val_main_v28 val_main_v22
  generalize val_main_v21 x0 x1 x2 = X
  pointwise [val_main_v23, val_main_v24, val_main_v25, val_main_v26, val_main_v29, val_main_v30, val_main_v31, val_main_v32,
    val_main_v36, val_main_v37, val_main_v38, val_main_v39, val_main_v43, val_main_v44, val_main_v45, val_main_v46, val_main_v49, val_main_v50]
  simp only [Nat.add_comm]

theorem v80_apply (i : Fin 16384) (n : Fin 1024) :
    val_main_v80 x0 x1 x2 x4 x5 (ix2 i n)
      = taps (fun i => proj x0 x1 x2 i ⟨n, by omega⟩) (fun k => x4 (ix2 k n)) (x5 (ix1 n)) i.val := by
  rw [← v51_apply x0 x1 x2 x4 x5 ⟨i.val / 8192, by omega⟩ ⟨i.val % 8192, by omega⟩ n i (by show i.val = i.val / 8192 * 8192 + i.val % 8192; omega)]
  unfold val_main_v80 val_main_v52
  generalize val_main_v51 x0 x1 x2 x4 x5 = X
  show val_main_v79 (ix2 i n) * shapeCast _ X Gen.shapeCasts_S2x8192x1024_S16384x1024 (ix2 i n) = _
  refine congrArg₂ (· * ·) (by pointwise [val_main_v79, val_main_cst_8]) (Idealize.ShloMosaic.shapeCast_apply _ _ _ _ ?_)
  rw [rowMajor_val2 _ 1024 rfl, rowMajor_val3 _ 8388608 1024 rfl rfl]
  show i.val / 8192 * 8388608 + i.val % 8192 * 1024 + n.val = i.val * 1024 + n.val
  omega

end Cert.Reference2Ideal.ProjRef

end
-- ==== Proof.ProjHalo.lean ====
module

public import proofs.«01_k».proof.Proof.ProjBlock
public import proofs.«01_k».proof.Proof.ProjExt
public import proofs.«01_k».proof.Proof.ProjNear
public import proofs.«01_k».proof.Proof.FfnMath

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ) (c : Dev nD)

/-- The extended block of block `t`: row `R` is the row `R - 8` of the block, zero outside the block's sequence. -/
def ext (t R n : Nat) : EReal :=
  if h : 8 ≤ t % 8 * 1024 + R ∧ t % 8 * 1024 + R < 8200 ∧ t * 1024 + R - 8 < 16384 ∧ n < 1024
    then projRow m c ⟨t * 1024 + R - 8, h.2.2.1⟩ ⟨n, by omega⟩ else 0

/-- Column `n` of the projection. -/
def projCol (n : Fin 1024) (i : Fin 16384) : EReal := projRow m c i ⟨n, by omega⟩

theorem ext_near (t r n : Fin 1024) (k : Nat) (R : Nat) (hR : R = r.val + 6 + k) (ht : t.val < 16) :
    ext m c t.val R n.val = near (projCol m c n) (t.val * 1024 + r.val) k := by
  unfold ext near
  have hm : (t.val * 1024 + r.val) % 8192 = t.val % 8 * 1024 + r.val := by omega
  by_cases h : 8 ≤ t.val % 8 * 1024 + R ∧ t.val % 8 * 1024 + R < 8200 ∧ t.val * 1024 + R - 8 < 16384 ∧ n.val < 1024
  · rw [dif_pos h, dif_pos ⟨by omega, by omega, by omega⟩]
    unfold projCol
    congr 2
    omega
  · rw [dif_neg h, dif_neg fun h' => h ⟨by omega, by omega, by omega, n.isLt⟩]

theorem idx' : ∀ t : Fin grid0.N, win0_1.index t = ![128 * t.val - 1, 0] ∧ win0_2.index t = ![min (128 * (t.val + 1)) 2047, 0] ∧
    win0_6.index t = ![0, 0, 0] ∧ win0_7.index t = ![0, 0] ∧ win0_8.index t = ![t.val, 0] := by
  decide +kernel

theorem V_v3 (k : Fin 4) (j : Fin 8) (l : Fin 128) (n : Fin 1024) (hn : n.val = j.val * 128 + l.val) :
    V m c main_v3 (ix3 k j l) = m (c, main_arg4) (ix2 k n) := by
  have hb : j.val * 128 + l.val < 1024 := by have := j.isLt; have := l.isLt; clear hn; omega
  obtain rfl : n = ⟨j.val * 128 + l.val, hb⟩ := Fin.ext hn
  simp only [V, hostOps0, List.flatten_cons, List.flatten_nil, List.append_nil, List.cons_append, List.nil_append]
  entry_read
  pointwise

theorem V_v4 (j : Fin 8) (l : Fin 128) (n : Fin 1024) (hn : n.val = j.val * 128 + l.val) :
    V m c main_v4 (ix2 j l) = m (c, main_arg5) (ix1 n) := by
  have hb : j.val * 128 + l.val < 1024 := by have := j.isLt; have := l.isLt; clear hn; omega
  obtain rfl : n = ⟨j.val * 128 + l.val, hb⟩ := Fin.ext hn
  simp only [V, hostOps0, List.flatten_cons, List.flatten_nil, List.append_nil, List.cons_append, List.nil_append]
  entry_read
  pointwise

theorem read1 (t : Fin cfg0.N) (h : Fin 8) (j : Fin 1024) (i : Fin 16384) (hi : i.val = (128 * t.val - 1) * 8 + h.val) :
    iblk m c 1 t (ix2 h j) = m (c, main_arg0) (ix2 i j) := by
  refine Eq.trans ?_ (congrFun (V_main_arg0 m c) (ix2 i j))
  blk_ext [iblk, idx' t]

theorem read2 (t : Fin cfg0.N) (h : Fin 8) (j : Fin 1024) (i : Fin 16384) (hi : i.val = min (128 * (t.val + 1)) 2047 * 8 + h.val) :
    iblk m c 2 t (ix2 h j) = m (c, main_arg0) (ix2 i j) := by
  refine Eq.trans ?_ (congrFun (V_main_arg0 m c) (ix2 i j))
  blk_ext [iblk, idx' t]

theorem read6 (t : Fin cfg0.N) (k : Fin 4) (j : Fin 8) (l : Fin 128) (n : Fin 1024) (hn : n.val = j.val * 128 + l.val) :
    iblk m c 6 t (ix3 k j l) = m (c, main_arg4) (ix2 k n) := by
  rw [← V_v3 m c k j l n hn]
  blk_ext [iblk, idx' t]

theorem read7 (t : Fin cfg0.N) (j : Fin 8) (l : Fin 128) (n : Fin 1024) (hn : n.val = j.val * 128 + l.val) :
    iblk m c 7 t (ix2 j l) = m (c, main_arg5) (ix1 n) := by
  rw [← V_v4 m c j l n hn]
  blk_ext [iblk, idx' t]

/-- A row of the convolution's weight. -/
theorem tapw (t : Fin cfg0.N) (o : Nat) (inb) (k : Fin 4) (hk : k.val = o) (j : Fin 8) (l : Fin 128) (n : Fin 1024)
    (hn : n.val = j.val * 128 + l.val) :
    View.ld (iblk m c 6 t) (Rect.unit ![o, 0, 0] S1x8x128.size inb) (ix3 0 j l) = m (c, main_arg4) (ix2 k n) :=
  (View.ld_unit_apply_of _ _ _ _ _ (ix3 k j l) (fun a => by
    fin_cases a
    · exact hk
    · exact (Nat.zero_add _).symm
    · exact (Nat.zero_add _).symm)).trans (read6 m c t k j l n hn)

/-- The projection's first 1024 columns' weight. -/
theorem weightU (t : Fin cfg0.N) (inb) (k n : Fin 1024) :
    View.ld (iblk m c 4 t) (Rect.unit ![0, 0] S1024x1024.size inb) (ix2 k n) = m (c, main_arg2) (ix2 k ⟨n, by omega⟩) :=
  (View.ld_unit_apply_of _ _ _ _ _ (ix2 k (⟨n, by omega⟩ : Fin 5632)) (fun a => by
    fin_cases a
    · exact (Nat.zero_add _).symm
    · exact (Nat.zero_add _).symm)).trans (read4 m c t k _)

variable (t : Fin cfg0.N)

/-- The gains' block. -/
def gains : FVec Ideal S1x1024 .f32 := k0_pay2 (iblk m c 3 t)

/-- The sixteen rows about the block, normed but for the gains. -/
def halo : FVec Ideal S16x1024 .f32 := k0_pay4 (iblk m c 1 t) (iblk m c 2 t)

theorem gains_apply (k : Fin 1024) : gains m c t (ix2 0 k) = m (c, main_arg1) (ix1 k) := by
  rw [← read3 m c t 0 k]
  unfold gains
  pointwise [k0_pay2]

theorem halo_row (h : Fin 16) (i : Fin 16384)
    (hi : (h.val < 8 ∧ i.val = (128 * t.val - 1) * 8 + h.val) ∨ (8 ≤ h.val ∧ i.val + 8 = min (128 * (t.val + 1)) 2047 * 8 + h.val)) (k : Fin 1024) :
    halo m c t (ix2 h k) * gains m c t (ix2 0 k) = normRow m c i k := by
  unfold halo normRow
  have hg : (fun j => m (c, main_arg1) (ix1 j)) = fun j => gains m c t (ix2 0 j) := funext fun j => (gains_apply m c t j).symm
  rw [hg]
  refine halo_apply _ _ (fun j => gains m c t (ix2 0 j)) h _ (fun k => ?_) k
  rcases hi with ⟨h8, hi⟩ | ⟨h8, hi⟩
  · exact (halo_lo _ _ h ⟨h.val, h8⟩ rfl k).trans (read1 m c t _ k i hi)
  · exact (halo_hi _ _ h ⟨h.val - 8, by omega⟩ (by show h.val = 8 + (h.val - 8); omega) k).trans
      (read2 m c t _ k i (by show i.val = min (128 * (t.val + 1)) 2047 * 8 + (h.val - 8); omega))

/-- A row of the extended block's projection. -/
theorem pay5_row (inb) (R : Fin 1040) (n : Fin 1024) (i : Fin 16384)
    (hi : ∀ k, extRows (gains m c t) (xn m c t) (halo m c t) (ix2 R k) = normRow m c i k) :
    k0_pay5 (gains m c t) (xn m c t) (halo m c t) (View.ld (iblk m c 4 t) (Rect.unit ![0, 0] S1024x1024.size inb)) (ix2 R n)
      = projCol m c n i :=
  (pay5_apply _ _ _ _ R n).trans (congrArg₂ col (funext hi) (funext fun k => weightU m c t inb k n))

theorem ext_mid (inb) (r n : Fin 1024) :
    k0_pay6 (gains m c t) (xn m c t) (halo m c t) (View.ld (iblk m c 4 t) (Rect.unit ![0, 0] S1024x1024.size inb)) (ix2 r n)
      = ext m c t.val (8 + r.val) n.val := by
  have ht : t.val < 16 := t.isLt
  rw [pay6_apply _ _ _ _ r n ⟨r.val, by omega⟩ rfl, pay5_row m c t inb _ n ⟨t.val * 1024 + r.val, by omega⟩ fun k =>
    (extRows_lo _ _ _ _ r k rfl).trans (congrFun (xn_row m c t r _ rfl) k)]
  unfold ext projCol
  rw [dif_pos ⟨by omega, by omega, by omega, n.isLt⟩]
  congr 2
  omega

theorem ext_lo (inb) (v : BitVec 32) (hv : Scalar.cmpi .sgt v 0#32 = 1#1 ↔ 0 < t.val % 8) (h : Fin 8) (n : Fin 1024) :
    k0_pay7 v (gains m c t) (xn m c t) (halo m c t) (View.ld (iblk m c 4 t) (Rect.unit ![0, 0] S1024x1024.size inb)) (ix2 h n)
      = ext m c t.val h.val n.val := by
  have ht : t.val < 16 := t.isLt
  rw [pay7_apply _ _ _ _ _ h n ⟨1024 + h.val, by omega⟩ rfl]
  unfold ext
  by_cases hc : 0 < t.val % 8
  · rw [if_pos (hv.2 hc), dif_pos ⟨by omega, by omega, by omega, n.isLt⟩]
    exact pay5_row m c t inb _ n ⟨t.val * 1024 + h.val - 8, by omega⟩ fun k =>
      (extRows_hi _ _ _ _ ⟨h.val, by omega⟩ k rfl).trans
        (halo_row m c t _ _ (.inl ⟨h.isLt, by show t.val * 1024 + h.val - 8 = (128 * t.val - 1) * 8 + h.val; omega⟩) k)
  · rw [if_neg (fun h => hc (hv.1 h)), dif_neg (by omega)]

theorem ext_hi (inb) (v : BitVec 32) (hv : Scalar.cmpi .slt v 7#32 = 1#1 ↔ t.val % 8 < 7) (h : Fin 8) (n : Fin 1024) :
    k0_pay8 v (gains m c t) (xn m c t) (halo m c t) (View.ld (iblk m c 4 t) (Rect.unit ![0, 0] S1024x1024.size inb)) (ix2 h n)
      = ext m c t.val (1032 + h.val) n.val := by
  have ht : t.val < 16 := t.isLt
  rw [pay8_apply _ _ _ _ _ h n ⟨1032 + h.val, by omega⟩ rfl]
  unfold ext
  by_cases hc : t.val % 8 < 7
  · rw [if_pos (hv.2 hc), dif_pos ⟨by omega, by omega, by omega, n.isLt⟩]
    exact pay5_row m c t inb _ n ⟨t.val * 1024 + (1032 + h.val) - 8, by omega⟩ fun k =>
      (extRows_hi _ _ _ _ ⟨8 + h.val, by omega⟩ k (by show 1032 + h.val = 1024 + (8 + h.val); omega)).trans
        (halo_row m c t _ _ (.inr ⟨Nat.le_add_right _ _, by
          show t.val * 1024 + (1032 + h.val) - 8 + 8 = min (128 * (t.val + 1)) 2047 * 8 + (8 + h.val); omega⟩) k)
  · rw [if_neg (fun h => hc (hv.1 h)), dif_neg (by omega)]

/-- The four taps and the bias, each halved. -/
def convRow (i : Fin 16384) (n : Fin 1024) : EReal :=
  near (projCol m c n) i 0 * (Ideal.ofBits .f32 0x3F000000#32 * m (c, main_arg4) (ix2 0 n))
    + near (projCol m c n) i 1 * (Ideal.ofBits .f32 0x3F000000#32 * m (c, main_arg4) (ix2 1 n))
    + (near (projCol m c n) i 2 * (Ideal.ofBits .f32 0x3F000000#32 * m (c, main_arg4) (ix2 2 n))
      + near (projCol m c n) i 3 * (Ideal.ofBits .f32 0x3F000000#32 * m (c, main_arg4) (ix2 3 n)))
    + Ideal.ofBits .f32 0x3F000000#32 * m (c, main_arg5) (ix1 n)

@[inherit_doc GQ]
def GU : (⟨S16384x1024, .f32⟩ : BufTy).Contents (Elt Ideal) := fun i => convRow m c (i 0) (i 1)

theorem convRow_eq (i : Fin 16384) (n : Fin 1024) :
    convRow m c i n = taps (projCol m c n) (fun k => m (c, main_arg4) (ix2 k n)) (m (c, main_arg5) (ix1 n)) i.val :=
  halves ..

/-- The reference's convolution is the kernel's. -/
theorem u_eq : Cert.Reference2Ideal.Read.val_main_v80 (F := Ideal) (m (c, main_arg0)) (m (c, main_arg1)) (m (c, main_arg2)) (m (c, main_arg4))
    (m (c, main_arg5)) = GU m c := by
  funext i
  obtain ⟨r, n, rfl⟩ : ∃ (r : Fin 16384) (n : Fin 1024), i = ix2 r n := ⟨i 0, i 1, eq_ix2 i⟩
  exact (Cert.Reference2Ideal.ProjRef.v80_apply _ _ _ _ _ r n).trans (convRow_eq m c r n).symm

end Cert.Kernel2Ideal.ProjValue

end
-- ==== Proof.ProjConvAt.lean ====
module

public import proofs.«01_k».proof.Proof.ProjConv
public import proofs.«01_k».proof.Proof.ProjHalo
import all proofs.«01_k».proof.Proof.Gen.Kernel2Ideal.Frame.RunA.S01

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj
open Idealize.ShloMosaic.Pipeline (Dat)
open Cert.Kernel2Ideal.Gen.kernelRun0_A_s1

variable (m : (ℓ : Loc nD τ sig) → Buf (Elt Ideal) ℓ) (c : Dev nD)

/-- Which blocks begin and end a sequence. -/
theorem ends : ∀ t : Fin grid0.N, (Scalar.cmpi .sgt (sl.v9 (grid0.coords t)) 0#32 = 1#1 ↔ 0 < t.val % 8) ∧
    (Scalar.cmpi .slt (sl.v9 (grid0.coords t)) 7#32 = 1#1 ↔ t.val % 8 < 7) := by
  decide +kernel

variable (t : Fin cfg0.N)

/-- Every row of the extended block is stored. -/
theorem ext_cover {p0 p1 : S8x1024.Idx → EReal} {p2 : S1024x1024.Idx → EReal} {h0 h1 h2} (y : S1040x1024.Idx) :
    ∃ p ∈ ([⟨Rect.unit ![1032, 0] S8x1024.size h0, p0⟩, ⟨Rect.unit ![0, 0] S8x1024.size h1, p1⟩,
      ⟨Rect.unit ![8, 0] S1024x1024.size h2, p2⟩] : List (View.Piece (Elt Ideal) S1040x1024 .f32)), y ∈ p.1.set := by
  have hy0 : (y 0).val < 1040 := (y 0).isLt
  have hy1 : (y 1).val < 1024 := (y 1).isLt
  by_cases ha : (y 0).val < 8
  · refine ⟨_, List.mem_cons_of_mem _ List.mem_cons_self, (LoadRect.mem_set _).2 fun b => ?_⟩
    match b with
    | ⟨0, _⟩ => exact ⟨(y 0).val, ha, show (y 0).val = 0 + 1 * (y 0).val by omega⟩
    | ⟨1, _⟩ => exact ⟨(y 1).val, hy1, show (y 1).val = 0 + 1 * (y 1).val by omega⟩
  by_cases hb : (y 0).val < 1032
  · refine ⟨_, List.mem_cons_of_mem _ (List.mem_cons_of_mem _ List.mem_cons_self), (LoadRect.mem_set _).2 fun b => ?_⟩
    match b with
    | ⟨0, _⟩ => exact ⟨(y 0).val - 8, show (y 0).val - 8 < 1024 by omega, show (y 0).val = 8 + 1 * ((y 0).val - 8) by omega⟩
    | ⟨1, _⟩ => exact ⟨(y 1).val, hy1, show (y 1).val = 0 + 1 * (y 1).val by omega⟩
  · refine ⟨_, List.mem_cons_self, (LoadRect.mem_set _).2 fun b => ?_⟩
    match b with
    | ⟨0, _⟩ => exact ⟨(y 0).val - 1032, show (y 0).val - 1032 < 8 by omega, show (y 0).val = 1032 + 1 * ((y 0).val - 1032) by omega⟩
    | ⟨1, _⟩ => exact ⟨(y 1).val, hy1, show (y 1).val = 0 + 1 * (y 1).val by omega⟩

/-- A store of `q` rows from row `o` on of the extended block holds the rows of `ext`. -/
theorem ext_piece (q o : Nat) (inb) (P : (⟨2, ![q, 1024]⟩ : Shape).Idx → EReal) (h : ∀ (r : Fin q) (n : Fin 1024), P (ix2 r n) = ext m c t.val (o + r.val) n.val)
    (x : (Rect.unit (s := S1040x1024) ![o, 0] ![q, 1024] inb).shape.Idx) :
    P x = ext m c t.val ((Rect.unit (s := S1040x1024) ![o, 0] ![q, 1024] inb).emb x 0).val ((Rect.unit (s := S1040x1024) ![o, 0] ![q, 1024] inb).emb x 1).val := by
  refine ((congrArg P (eq_ix2 x)).trans (h (x 0) (x 1))).trans ?_
  show ext m c t.val (o + (x 0).val) (x 1).val = ext m c t.val (o + 1 * (x 0).val) (0 + 1 * (x 1).val)
  rw [Nat.one_mul, Nat.one_mul, Nat.zero_add]

theorem ext_read (o : Nat) (ho : o + 8 ≤ 1040) (a : Fin 8) (n : Fin 1024) :
    scM0_0.view.readCov (sl.HS0_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t))
      (Rect.unit (s := S1040x1024) ![o, 0] S8x1024.size (ProjSlab.ext_inb ho)).toLoadRect (ix2 a n) = ext m c t.val (o + a.val) n.val := by
  rw [View.readCov_eq_canon']
  refine (View.canon_apply_of_pieces (fun y => ext m c t.val (y 0).val (y 1).val) _ ?_ _ (ext_cover _)).trans ?_
  · refine List.forall_mem_cons.2 ⟨?_, List.forall_mem_cons.2 ⟨?_, List.forall_mem_cons.2 ⟨?_, List.forall_mem_nil _⟩⟩⟩
    · refine ext_piece m c t 8 1032 inb_S1040x1024_S8x1024_1032_0 _ fun h n => ?_
      show k0_pay8 (sl.v9 (grid0.coords t)) (k0_pay2 (View.readAt (Elt Ideal) (ms0_3 t).view (Rect.unit (s := S1x1024) ![0, 0] S1x1024.size inb_S1x1024_S1x1024_0_0).toLoadRect ((hs0_3 t).unread (iblk m c 3 t)))) (k0_pay3 (View.readAt (Elt Ideal) (ms0_3 t).view (Rect.unit (s := S1x1024) ![0, 0] S1x1024.size inb_S1x1024_S1x1024_0_0).toLoadRect ((hs0_3 t).unread (iblk m c 3 t))) (View.readAt (Elt Ideal) (ms0_0 t).view (Rect.unit (s := S1024x1024) ![0, 0] S1024x1024.size inb_S1024x1024_S1024x1024_0_0).toLoadRect ((hs0_0 t).unread (iblk m c 0 t))))
        (k0_pay4 (View.readAt (Elt Ideal) (ms0_1 t).view (Rect.unit (s := S8x1024) ![0, 0] S8x1024.size inb_S8x1024_S8x1024_0_0).toLoadRect ((hs0_1 t).unread (iblk m c 1 t))) (View.readAt (Elt Ideal) (ms0_2 t).view (Rect.unit (s := S8x1024) ![0, 0] S8x1024.size inb_S8x1024_S8x1024_0_0).toLoadRect ((hs0_2 t).unread (iblk m c 2 t))))
        (View.readAt (Elt Ideal) (ms0_4 t).view (Rect.unit (s := S1024x5632) ![0, 0] S1024x1024.size inb_S1024x5632_S1024x1024_0_0).toLoadRect ((hs0_4 t).unread (iblk m c 4 t))) (ix2 h n) = _
      simp (disch := decide) only [View.readAt_eq_ld, Memref.IsWhole.read_unread, View.ld_unit_lit']
      exact ext_hi m c t _ _ (ends t).2 h n
    · refine (ext_piece m c t 8 0 inb_S1040x1024_S8x1024_0_0 _ fun h n => ?_)
      show k0_pay7 (sl.v9 (grid0.coords t)) (k0_pay2 (View.readAt (Elt Ideal) (ms0_3 t).view (Rect.unit (s := S1x1024) ![0, 0] S1x1024.size inb_S1x1024_S1x1024_0_0).toLoadRect ((hs0_3 t).unread (iblk m c 3 t)))) (k0_pay3 (View.readAt (Elt Ideal) (ms0_3 t).view (Rect.unit (s := S1x1024) ![0, 0] S1x1024.size inb_S1x1024_S1x1024_0_0).toLoadRect ((hs0_3 t).unread (iblk m c 3 t))) (View.readAt (Elt Ideal) (ms0_0 t).view (Rect.unit (s := S1024x1024) ![0, 0] S1024x1024.size inb_S1024x1024_S1024x1024_0_0).toLoadRect ((hs0_0 t).unread (iblk m c 0 t))))
        (k0_pay4 (View.readAt (Elt Ideal) (ms0_1 t).view (Rect.unit (s := S8x1024) ![0, 0] S8x1024.size inb_S8x1024_S8x1024_0_0).toLoadRect ((hs0_1 t).unread (iblk m c 1 t))) (View.readAt (Elt Ideal) (ms0_2 t).view (Rect.unit (s := S8x1024) ![0, 0] S8x1024.size inb_S8x1024_S8x1024_0_0).toLoadRect ((hs0_2 t).unread (iblk m c 2 t))))
        (View.readAt (Elt Ideal) (ms0_4 t).view (Rect.unit (s := S1024x5632) ![0, 0] S1024x1024.size inb_S1024x5632_S1024x1024_0_0).toLoadRect ((hs0_4 t).unread (iblk m c 4 t))) (ix2 h n) = _
      simp (disch := decide) only [View.readAt_eq_ld, Memref.IsWhole.read_unread, View.ld_unit_lit']
      exact (ext_lo m c t _ _ (ends t).1 h n).trans (congrArg (ext m c t.val · n.val) (Nat.zero_add _).symm)
    · refine (ext_piece m c t 1024 8 inb_S1040x1024_S1024x1024_8_0 _ fun h n => ?_)
      show k0_pay6 (k0_pay2 (View.readAt (Elt Ideal) (ms0_3 t).view (Rect.unit (s := S1x1024) ![0, 0] S1x1024.size inb_S1x1024_S1x1024_0_0).toLoadRect ((hs0_3 t).unread (iblk m c 3 t)))) (k0_pay3 (View.readAt (Elt Ideal) (ms0_3 t).view (Rect.unit (s := S1x1024) ![0, 0] S1x1024.size inb_S1x1024_S1x1024_0_0).toLoadRect ((hs0_3 t).unread (iblk m c 3 t))) (View.readAt (Elt Ideal) (ms0_0 t).view (Rect.unit (s := S1024x1024) ![0, 0] S1024x1024.size inb_S1024x1024_S1024x1024_0_0).toLoadRect ((hs0_0 t).unread (iblk m c 0 t))))
        (k0_pay4 (View.readAt (Elt Ideal) (ms0_1 t).view (Rect.unit (s := S8x1024) ![0, 0] S8x1024.size inb_S8x1024_S8x1024_0_0).toLoadRect ((hs0_1 t).unread (iblk m c 1 t))) (View.readAt (Elt Ideal) (ms0_2 t).view (Rect.unit (s := S8x1024) ![0, 0] S8x1024.size inb_S8x1024_S8x1024_0_0).toLoadRect ((hs0_2 t).unread (iblk m c 2 t))))
        (View.readAt (Elt Ideal) (ms0_4 t).view (Rect.unit (s := S1024x5632) ![0, 0] S1024x1024.size inb_S1024x5632_S1024x1024_0_0).toLoadRect ((hs0_4 t).unread (iblk m c 4 t))) (ix2 h n) = _
      simp (disch := decide) only [View.readAt_eq_ld, Memref.IsWhole.read_unread, View.ld_unit_lit']
      exact ext_mid m c t _ h n
  · show ext m c t.val (o + 1 * a.val) (0 + 1 * n.val) = _
    rw [Nat.one_mul, Nat.one_mul, Nat.zero_add]

/-- Block `t` of the convolution. -/
def blkU (r n : Fin 1024) : EReal := convRow m c ⟨t.val * 1024 + r.val, by have h : t.val < 16 := t.isLt; omega⟩ n

theorem blkU_sum (r n : Fin 1024) (j : Fin 8) (l : Fin 128) (hn : n.val = j.val * 128 + l.val) :
    blkU m c t r n = ext m c t.val (r.val + 6) n * sl.v67 c (ms0_6 t) (hs0_6 t) (iblk m c 6 t) (ix2 j l)
      + ext m c t.val (r.val + 7) n * sl.v71 c (ms0_6 t) (hs0_6 t) (iblk m c 6 t) (ix2 j l)
      + (ext m c t.val (r.val + 8) n * sl.v75 c (ms0_6 t) (hs0_6 t) (iblk m c 6 t) (ix2 j l)
        + ext m c t.val (r.val + 9) n * sl.v79 c (ms0_6 t) (hs0_6 t) (iblk m c 6 t) (ix2 j l))
      + sl.v83 c (ms0_7 t) (hs0_7 t) (iblk m c 7 t) (ix2 j l) := by
  have ht : t.val < 16 := t.isLt
  show _ = ext m c t.val (r.val + 6) n * k0_pay9 (View.readAt (Elt Ideal) (ms0_6 t).view (Rect.unit (s := S4x8x128) ![0, 0, 0] S1x8x128.size inb_S4x8x128_S1x8x128_0_0_0).toLoadRect ((hs0_6 t).unread (iblk m c 6 t))) (ix2 j l)
    + ext m c t.val (r.val + 7) n * k0_pay10 (View.readAt (Elt Ideal) (ms0_6 t).view (Rect.unit (s := S4x8x128) ![1, 0, 0] S1x8x128.size inb_S4x8x128_S1x8x128_1_0_0).toLoadRect ((hs0_6 t).unread (iblk m c 6 t))) (ix2 j l)
    + (ext m c t.val (r.val + 8) n * k0_pay11 (View.readAt (Elt Ideal) (ms0_6 t).view (Rect.unit (s := S4x8x128) ![2, 0, 0] S1x8x128.size inb_S4x8x128_S1x8x128_2_0_0).toLoadRect ((hs0_6 t).unread (iblk m c 6 t))) (ix2 j l)
      + ext m c t.val (r.val + 9) n * k0_pay12 (View.readAt (Elt Ideal) (ms0_6 t).view (Rect.unit (s := S4x8x128) ![3, 0, 0] S1x8x128.size inb_S4x8x128_S1x8x128_3_0_0).toLoadRect ((hs0_6 t).unread (iblk m c 6 t))) (ix2 j l))
    + k0_pay13 (View.readAt (Elt Ideal) (ms0_7 t).view (Rect.unit (s := S8x128) ![0, 0] S8x128.size inb_S8x128_S8x128_0_0).toLoadRect ((hs0_7 t).unread (iblk m c 7 t))) (ix2 j l)
  simp (disch := decide) only [View.readAt_eq_ld, Memref.IsWhole.read_unread, View.ld_unit_lit']
  rw [pay9_apply, pay10_apply, pay11_apply, pay12_apply, pay13_apply, tapw m c t 0 _ 0 rfl j l n hn, tapw m c t 1 _ 1 rfl j l n hn,
    tapw m c t 2 _ 2 rfl j l n hn, tapw m c t 3 _ 3 rfl j l n hn, read7 m c t j l n hn,
    ext_near m c ⟨t.val, by omega⟩ r n 0 _ rfl ht, ext_near m c ⟨t.val, by omega⟩ r n 1 _ rfl ht,
    ext_near m c ⟨t.val, by omega⟩ r n 2 _ rfl ht, ext_near m c ⟨t.val, by omega⟩ r n 3 _ rfl ht]
  rfl

theorem conv_at (P : S1024x1024.Idx → EReal) (hP : ∀ r n, P (ix2 r n) = blkU m c t r n) :
    ProjConv.Conv c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) scM0_0 (iblk m c 0 t) (iblk m c 1 t) (iblk m c 2 t) (iblk m c 3 t) (iblk m c 4 t) (iblk m c 6 t) (iblk m c 7 t) (ext m c t.val) (blkU m c t) P :=
  ⟨ext_read m c t, blkU_sum m c t, hP⟩

end Cert.Kernel2Ideal.ProjValue

end
-- ==== Proof.ProjTiles1.lean ====
module

public import proofs.«01_k».proof.Proof.ProjConv
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1 Cert.Kernel2Ideal.Gen.kernelRun0_A_s2 Cert.Kernel2Ideal.Gen.kernelRun0_A

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg7 : Memref sig .tc .vmem S4x8x128 .f32) (harg7 : arg7.IsWhole)
  (arg8 : Memref sig .tc .vmem S8x128 .f32) (harg8 : arg8.IsWhole)
  (arg14 : Memref sig .tc .vmem S1040x1024 .f32) (arg15 : Memref sig .tc .vmem S16x64x128 .f32)
  (x0 : Vec Ideal S1024x1024 .f32) (x1 : Vec Ideal S8x1024 .f32) (x2 : Vec Ideal S8x1024 .f32) (x3 : Vec Ideal S1x1024 .f32) (x4 : Vec Ideal S1024x5632 .bf16) (x6 : Vec Ideal S4x8x128 .f32) (x7 : Vec Ideal S8x128 .f32)

set_option maxHeartbeats 10000000 in
/-- The first 32 tiles. -/
theorem tiles1 {E : Nat → Nat → EReal} {G : Fin 1024 → Fin 1024 → EReal} {P : S1024x1024.Idx → EReal}
    (h : Conv c i arg1 harg1 arg2 harg2 arg3 harg3 arg4 harg4 arg5 harg5 arg7 harg7 arg8 harg8 arg14 x0 x1 x2 x3 x4 x6 x7 E G P) :
    ∀ p ∈ sl.H8_32 c i arg1 harg1 arg2 harg2 arg3 harg3 arg4 harg4 arg5 harg5 arg7 harg7 arg8 harg8 arg14 arg15 x0 x1 x2 x3 x4 x6 x7, ∀ x : p.1.shape.Idx, p.2 x = P (p.1.emb x) := by
  iterate 32
    refine List.forall_mem_cons.2 ⟨?_, ?_⟩
    · refine ProjSlab.tile_is G h.sum rfl ?_ ?_ ?_ ?_ ?_ ?_ ?_ ?_ ?_ ?_ ?_ P h.out (by decide) <;>
        exact ProjSlab.row_is h.ext (by decide) rfl rfl rfl
  exact List.forall_mem_nil _

end Cert.Kernel2Ideal.ProjConv

end
-- ==== Proof.ProjTiles2.lean ====
module

public import proofs.«01_k».proof.Proof.ProjConv
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1 Cert.Kernel2Ideal.Gen.kernelRun0_A_s2 Cert.Kernel2Ideal.Gen.kernelRun0_A

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg7 : Memref sig .tc .vmem S4x8x128 .f32) (harg7 : arg7.IsWhole)
  (arg8 : Memref sig .tc .vmem S8x128 .f32) (harg8 : arg8.IsWhole)
  (arg14 : Memref sig .tc .vmem S1040x1024 .f32) (arg15 : Memref sig .tc .vmem S16x64x128 .f32)
  (x0 : Vec Ideal S1024x1024 .f32) (x1 : Vec Ideal S8x1024 .f32) (x2 : Vec Ideal S8x1024 .f32) (x3 : Vec Ideal S1x1024 .f32) (x4 : Vec Ideal S1024x5632 .bf16) (x6 : Vec Ideal S4x8x128 .f32) (x7 : Vec Ideal S8x128 .f32)

set_option maxHeartbeats 10000000 in
/-- The first 64 tiles. -/
theorem tiles2 {E : Nat → Nat → EReal} {G : Fin 1024 → Fin 1024 → EReal} {P : S1024x1024.Idx → EReal}
    (h : Conv c i arg1 harg1 arg2 harg2 arg3 harg3 arg4 harg4 arg5 harg5 arg7 harg7 arg8 harg8 arg14 x0 x1 x2 x3 x4 x6 x7 E G P)
    (hp : ∀ p ∈ sl.H8_32 c i arg1 harg1 arg2 harg2 arg3 harg3 arg4 harg4 arg5 harg5 arg7 harg7 arg8 harg8 arg14 arg15 x0 x1 x2 x3 x4 x6 x7, ∀ x : p.1.shape.Idx, p.2 x = P (p.1.emb x)) :
    ∀ p ∈ sl.H8_64 c i arg1 harg1 arg2 harg2 arg3 harg3 arg4 harg4 arg5 harg5 arg7 harg7 arg8 harg8 arg14 arg15 x0 x1 x2 x3 x4 x6 x7, ∀ x : p.1.shape.Idx, p.2 x = P (p.1.emb x) := by
  iterate 32
    refine List.forall_mem_cons.2 ⟨?_, ?_⟩
    · refine ProjSlab.tile_is G h.sum rfl ?_ ?_ ?_ ?_ ?_ ?_ ?_ ?_ ?_ ?_ ?_ P h.out (by decide) <;>
        exact ProjSlab.row_is h.ext (by decide) rfl rfl rfl
  exact hp

end Cert.Kernel2Ideal.ProjConv

end
-- ==== Proof.ProjTiles3.lean ====
module

public import proofs.«01_k».proof.Proof.ProjConv
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1 Cert.Kernel2Ideal.Gen.kernelRun0_A_s2 Cert.Kernel2Ideal.Gen.kernelRun0_A

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg7 : Memref sig .tc .vmem S4x8x128 .f32) (harg7 : arg7.IsWhole)
  (arg8 : Memref sig .tc .vmem S8x128 .f32) (harg8 : arg8.IsWhole)
  (arg14 : Memref sig .tc .vmem S1040x1024 .f32) (arg15 : Memref sig .tc .vmem S16x64x128 .f32)
  (x0 : Vec Ideal S1024x1024 .f32) (x1 : Vec Ideal S8x1024 .f32) (x2 : Vec Ideal S8x1024 .f32) (x3 : Vec Ideal S1x1024 .f32) (x4 : Vec Ideal S1024x5632 .bf16) (x6 : Vec Ideal S4x8x128 .f32) (x7 : Vec Ideal S8x128 .f32)

set_option maxHeartbeats 10000000 in
/-- The first 96 tiles. -/
theorem tiles3 {E : Nat → Nat → EReal} {G : Fin 1024 → Fin 1024 → EReal} {P : S1024x1024.Idx → EReal}
    (h : Conv c i arg1 harg1 arg2 harg2 arg3 harg3 arg4 harg4 arg5 harg5 arg7 harg7 arg8 harg8 arg14 x0 x1 x2 x3 x4 x6 x7 E G P)
    (hp : ∀ p ∈ sl.H8_64 c i arg1 harg1 arg2 harg2 arg3 harg3 arg4 harg4 arg5 harg5 arg7 harg7 arg8 harg8 arg14 arg15 x0 x1 x2 x3 x4 x6 x7, ∀ x : p.1.shape.Idx, p.2 x = P (p.1.emb x)) :
    ∀ p ∈ sl.H8_96 c i arg1 harg1 arg2 harg2 arg3 harg3 arg4 harg4 arg5 harg5 arg7 harg7 arg8 harg8 arg14 arg15 x0 x1 x2 x3 x4 x6 x7, ∀ x : p.1.shape.Idx, p.2 x = P (p.1.emb x) := by
  iterate 32
    refine List.forall_mem_cons.2 ⟨?_, ?_⟩
    · refine ProjSlab.tile_is G h.sum rfl ?_ ?_ ?_ ?_ ?_ ?_ ?_ ?_ ?_ ?_ ?_ P h.out (by decide) <;>
        exact ProjSlab.row_is h.ext (by decide) rfl rfl rfl
  exact hp

end Cert.Kernel2Ideal.ProjConv

end
-- ==== Proof.ProjTiles4.lean ====
module

public import proofs.«01_k».proof.Proof.ProjConv
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1 Cert.Kernel2Ideal.Gen.kernelRun0_A_s2 Cert.Kernel2Ideal.Gen.kernelRun0_A

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg7 : Memref sig .tc .vmem S4x8x128 .f32) (harg7 : arg7.IsWhole)
  (arg8 : Memref sig .tc .vmem S8x128 .f32) (harg8 : arg8.IsWhole)
  (arg14 : Memref sig .tc .vmem S1040x1024 .f32) (arg15 : Memref sig .tc .vmem S16x64x128 .f32)
  (x0 : Vec Ideal S1024x1024 .f32) (x1 : Vec Ideal S8x1024 .f32) (x2 : Vec Ideal S8x1024 .f32) (x3 : Vec Ideal S1x1024 .f32) (x4 : Vec Ideal S1024x5632 .bf16) (x6 : Vec Ideal S4x8x128 .f32) (x7 : Vec Ideal S8x128 .f32)

set_option maxHeartbeats 10000000 in
/-- The first 127 tiles. -/
theorem tiles4 {E : Nat → Nat → EReal} {G : Fin 1024 → Fin 1024 → EReal} {P : S1024x1024.Idx → EReal}
    (h : Conv c i arg1 harg1 arg2 harg2 arg3 harg3 arg4 harg4 arg5 harg5 arg7 harg7 arg8 harg8 arg14 x0 x1 x2 x3 x4 x6 x7 E G P)
    (hp : ∀ p ∈ sl.H8_96 c i arg1 harg1 arg2 harg2 arg3 harg3 arg4 harg4 arg5 harg5 arg7 harg7 arg8 harg8 arg14 arg15 x0 x1 x2 x3 x4 x6 x7, ∀ x : p.1.shape.Idx, p.2 x = P (p.1.emb x)) :
    ∀ p ∈ sl.H8_127 c i arg1 harg1 arg2 harg2 arg3 harg3 arg4 harg4 arg5 harg5 arg7 harg7 arg8 harg8 arg14 arg15 x0 x1 x2 x3 x4 x6 x7, ∀ x : p.1.shape.Idx, p.2 x = P (p.1.emb x) := by
  iterate 31
    refine List.forall_mem_cons.2 ⟨?_, ?_⟩
    · refine ProjSlab.tile_is G h.sum rfl ?_ ?_ ?_ ?_ ?_ ?_ ?_ ?_ ?_ ?_ ?_ P h.out (by decide) <;>
        exact ProjSlab.row_is h.ext (by decide) rfl rfl rfl
  exact hp

end Cert.Kernel2Ideal.ProjConv

end
-- ==== Proof.ProjTiles5.lean ====
module

public import proofs.«01_k».proof.Proof.ProjConv
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjConv

open Cert.Kernel2Ideal Cert.Kernel2Ideal.Gen Idealize.ShloMosaic Idealize.ShloMosaic.TcCoe Idealize.SL.Sem Cert.Ffn Cert.Proj
open Cert.Kernel2Ideal.Gen.kernelRun0_A_s1 Cert.Kernel2Ideal.Gen.kernelRun0_A_s2 Cert.Kernel2Ideal.Gen.kernelRun0_A

variable (c : Dev nD) (i : grid0.Coords)
  (arg1 : Memref sig .tc .vmem S1024x1024 .f32) (harg1 : arg1.IsWhole)
  (arg2 : Memref sig .tc .vmem S8x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2048 .f32) (harg6 : arg6.IsWhole)
  (arg7 : Memref sig .tc .vmem S4x8x128 .f32) (harg7 : arg7.IsWhole)
  (arg8 : Memref sig .tc .vmem S8x128 .f32) (harg8 : arg8.IsWhole)
  (arg9 : Memref sig .tc .vmem S1024x1024 .f32) (harg9 : arg9.IsWhole)
  (arg10 : Memref sig .tc .vmem S1024x1024 .bf16) (harg10 : arg10.IsWhole)
  (arg11 : Memref sig .tc .vmem S1024x256 .bf16) (harg11 : arg11.IsWhole)
  (arg12 : Memref sig .tc .vmem S1024x256 .bf16) (harg12 : arg12.IsWhole)
  (arg13 : Memref sig .tc .vmem S1024x2048 .f32) (harg13 : arg13.IsWhole)
  (arg14 : Memref sig .tc .vmem S1040x1024 .f32) (harg14 : arg14.IsWhole)
  (arg15 : Memref sig .tc .vmem S16x64x128 .f32) (harg15 : arg15.IsWhole)
  (x0 : Vec Ideal S1024x1024 .f32) (x1 : Vec Ideal S8x1024 .f32) (x2 : Vec Ideal S8x1024 .f32) (x3 : Vec Ideal S1x1024 .f32) (x4 : Vec Ideal S1024x5632 .bf16) (x5 : Vec Ideal S1x2048 .f32) (x6 : Vec Ideal S4x8x128 .f32) (x7 : Vec Ideal S8x128 .f32)

set_option maxHeartbeats 10000000 in
/-- Every tile. -/
theorem tiles5 {E : Nat → Nat → EReal} {G : Fin 1024 → Fin 1024 → EReal} {P : S1024x1024.Idx → EReal}
    (h : Conv c i arg1 harg1 arg2 harg2 arg3 harg3 arg4 harg4 arg5 harg5 arg7 harg7 arg8 harg8 arg14 x0 x1 x2 x3 x4 x6 x7 E G P)
    (hp : ∀ p ∈ sl.H8_127 c i arg1 harg1 arg2 harg2 arg3 harg3 arg4 harg4 arg5 harg5 arg7 harg7 arg8 harg8 arg14 arg15 x0 x1 x2 x3 x4 x6 x7, ∀ x : p.1.shape.Idx, p.2 x = P (p.1.emb x)) :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, ∀ x : p.1.shape.Idx, p.2 x = P (p.1.emb x) := by
  delta kernelRun0_A
  dsimp only
  refine List.forall_mem_cons.2 ⟨?_, hp⟩
  refine ProjSlab.tile_is G h.sum rfl ?_ ?_ ?_ ?_ ?_ ?_ ?_ ?_ ?_ ?_ ?_ P h.out (by decide) <;>
    exact ProjSlab.row_is h.ext (by decide) rfl rfl rfl

end Cert.Kernel2Ideal.ProjConv

end
-- ==== Proof.ProjConvFinal.lean ====
module

public import proofs.«01_k».proof.Proof.ProjConvAt
public import proofs.«01_k».proof.Proof.ProjTiles1
public import proofs.«01_k».proof.Proof.ProjTiles2
public import proofs.«01_k».proof.Proof.ProjTiles3
public import proofs.«01_k».proof.Proof.ProjTiles4
public import proofs.«01_k».proof.Proof.ProjTiles5
import all proofs.«01_k».proof.Proof.Gen.Kernel2Ideal.Frame.RunA
import all proofs.«01_k».proof.Proof.Gen.Kernel2Ideal.Frame.RunA.S02
import all proofs.«01_k».proof.Proof.Gen.Kernel2Ideal.Frame.RunA.S01

@[expose] public section

set_option maxRecDepth 16384

noncomputable section

namespace Cert.Kernel2Ideal.ProjValue

open Cert.Kernel2Ideal Cert.Kernel2Ideal.Gen Idealize.ShloMosaic Idealize.ShloMosaic.TcCoe Idealize.SL.Sem Cert.Ffn Cert.Proj
open Idealize.ShloMosaic.Pipeline (Dat)
open Cert.Kernel2Ideal.Gen.kernelRun0_A_s1 Cert.Kernel2Ideal.Gen.kernelRun0_A_s2 Cert.Kernel2Ideal.Gen.kernelRun0_A

variable (m : (ℓ : Loc nD τ sig) → Buf (Elt Ideal) ℓ) (c : Dev nD)

/-- Block `t` of the whole convolution. -/
def onBlk (t : Fin cfg0.N) : Vec Ideal S1024x1024 .f32 := fun y => GU m c ((win0_8.blk t).view.emb y)

theorem onBlk_apply (t : Fin cfg0.N) (r n : Fin 1024) : onBlk m c t (ix2 r n) = blkU m c t r n := by
  have ht : t.val < 16 := t.isLt
  have he : (win0_8.blk t).view.emb (ix2 r n) = ix2 (⟨t.val * 1024 + r.val, by omega⟩ : Fin 16384) n := by blk_ext [idx' t]
  unfold onBlk
  rw [he]
  rfl

theorem tiles (t : Fin cfg0.N) (P : S1024x1024.Idx → EReal) (hP : ∀ r n, P (ix2 r n) = blkU m c t r n) :
    ∀ p ∈ sl.H8_127 c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) scM0_0 scM0_1 (iblk m c 0 t) (iblk m c 1 t) (iblk m c 2 t) (iblk m c 3 t) (iblk m c 4 t) (iblk m c 6 t) (iblk m c 7 t), ∀ x : p.1.shape.Idx, p.2 x = P (p.1.emb x) :=
  have h := conv_at m c t P hP
  ProjConv.tiles4 (h := h) (hp := ProjConv.tiles3 (h := h) (hp := ProjConv.tiles2 (h := h) (hp := ProjConv.tiles1 (arg15 := scM0_1) (h := h))))

theorem final_u : (dats m 0 c).arrAt 8 cfg0.N = GU m c := by
  refine (dats m 0 c).arrAt_eq_of_covers 8 _ (by decide +kernel) fun t hf y => ?_
  blk_simp
  rw [after0_8]
  unfold outsAt0
  dsimp only
  unfold out0_A_8
  refine View.read_writes_apply_of_pieces _ _ (onBlk m c t) _ ?_ y (cover0_A_8 ..)
  apply ProjConv.tiles5 (h := conv_at m c t (onBlk m c t) (onBlk_apply m c t)) (hp := tiles m c t (onBlk m c t) (onBlk_apply m c t))

end Cert.Kernel2Ideal.ProjValue

end
-- ==== Proof.ProjMath.lean ====
module

public import proofs.«01_k».proof.Proof.ProjSpec
public import proofs.«01_k».proof.Proof.FfnMath

@[expose] public section

noncomputable section

namespace Cert.Proj

open Idealize.ShloMosaic Cert.Ffn

theorem root : Ideal.ofBits .f32 0x3F4C422A#32 = ((13386282 / 16777216 : ℝ) : EReal) := by
  simp [Ideal.ofBits, Ideal.ieee, -EReal.coe_mul]; norm_num

theorem cube : Ideal.ofBits .f32 0x3D372713#32 = ((12003091 / 268435456 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem log2e : Ideal.ofBits .f32 0x3FB8AA3B#32 = ((12102203 / 8388608 : ℝ) : EReal) := by
  simp [Ideal.ofBits, Ideal.ieee, -EReal.coe_mul]; norm_num

theorem qscale : Ideal.ofBits .f32 0x3E38AA3B#32 = ((12102203 / 67108864 : ℝ) : EReal) := by
  simp [Ideal.ofBits, Ideal.ieee, -EReal.coe_mul]; norm_num

/-- The kernel's one scale is the product of the reference's two. -/
theorem scaled_eq (q : EReal) : q * Ideal.ofBits .f32 0x3E38AA3B#32 = scaled q := by
  unfold scaled
  rw [mul_assoc, eighth, log2e, qscale, ← EReal.coe_mul]
  norm_num

theorem real_logis (z : ℝ) : 1 / 2 * Real.tanh (1 / 2 * z) + 1 / 2 = 1 / (1 + Real.exp (-z)) := by
  have h2 : Real.exp (-z) = (Real.exp (1 / 2 * z))⁻¹ * (Real.exp (1 / 2 * z))⁻¹ := by
    rw [← Real.exp_neg, ← Real.exp_add]; congr 1; ring
  have hE := Real.exp_pos (1 / 2 * z)
  rw [Real.tanh_eq_sinh_div_cosh, Real.sinh_eq, Real.cosh_eq, Real.exp_neg (1 / 2 * z), h2]
  generalize Real.exp (1 / 2 * z) = E at hE
  field_simp
  ring

/-- The two logistic functions are one, at every extended real. -/
theorem logis_eq (z : EReal) : tlogis z = logis z := by
  unfold tlogis logis
  rw [half, Ideal.ofBits_one_f32]
  induction z with
  | bot =>
    rw [EReal.coe_mul_bot_of_pos (by norm_num), Ideal.tanh_bot, EReal.neg_bot, Ideal.exp_top, EReal.add_top_of_ne_bot (by decide)]
    rw [show ((-1 : EReal)) = ((-1 : ℝ) : EReal) from rfl, ← EReal.coe_mul, ← EReal.coe_add]
    simp [Ideal.div]
  | top =>
    rw [EReal.coe_mul_top_of_pos (by norm_num), Ideal.tanh_top, EReal.neg_top, Ideal.exp_bot]
    rw [show ((1 : EReal)) = ((1 : ℝ) : EReal) from rfl, ← EReal.coe_mul, ← EReal.coe_add, add_zero, Ideal.div_coe one_ne_zero,
      ← EReal.coe_mul]
    norm_num
  | coe r =>
    have hp : 0 < 1 + Real.exp (-r) := by positivity
    rw [← EReal.coe_mul, Ideal.tanh_coe, ← EReal.coe_mul, ← EReal.coe_add, real_logis, ← EReal.coe_neg, Ideal.exp_coe,
      ← EReal.coe_one, ← EReal.coe_add, Ideal.div_coe hp.ne', ← EReal.coe_mul, one_mul]

/-- The two smooth gates are one at a real, where the kernel's coefficient is the product of the reference's two. -/
theorem gelu_eq {k g : EReal} (hk : k = ((80338380498831 / 2251799813685248 : ℝ) : EReal)) (hg : IsR g) : tgelu k g = gelu g := by
  obtain ⟨r, rfl⟩ := hg
  unfold tgelu gelu
  rw [hk, half, root, cube, Ideal.ofBits_one_f32, ← EReal.coe_one]
  simp only [← EReal.coe_mul, ← EReal.coe_add, Ideal.tanh_coe]
  congr 1
  rw [show r * (80338380498831 / 2251799813685248 * (r * r) + 13386282 / 16777216)
    = 13386282 / 16777216 * (r + 12003091 / 268435456 * (r * r * r)) by ring]
  ring

theorem IsR.col {x w : Fin 1024 → EReal} (hx : ∀ k, IsR (x k)) (hw : ∀ k, IsR (w k)) : IsR (col x w) :=
  Ffn.IsR.sum fun k => (hx k).mul (hw k)

end Cert.Proj

end
-- ==== Proof.ProjEq.lean ====
module

public import proofs.«01_k».proof.Proof.ProjBlock
public import proofs.«01_k».proof.Proof.ProjRef
public import proofs.«01_k».proof.Proof.ProjMath

@[expose] public section

noncomputable section

namespace Cert.Kernel2Ideal.ProjEq

open Cert.Kernel2Ideal Cert.Kernel2Ideal.ProjValue Cert.Reference2Ideal.Read Cert.Reference2Ideal.ProjRef
open Idealize.ShloMosaic Idealize.ShloMosaic.TcCoe Idealize.SL.Sem Cert.Ffn Cert.Proj

variable (m : (ℓ : Loc nD τ sig) → Buf (Elt Ideal) ℓ) (c : Dev nD)

/-- The reference's queries are the kernel's. -/
theorem q_eq : val_main_v85 (F := Ideal) (m (c, main_arg0)) (m (c, main_arg1)) (m (c, main_arg2)) = GQ m c := by
  funext i
  rw [eq_ix2 i]
  exact (v85_apply _ _ _ _ _).trans (scaled_eq _).symm

theorem k_eq : val_main_v86 (F := Ideal) (m (c, main_arg0)) (m (c, main_arg1)) (m (c, main_arg2)) = GK m c := by
  funext i
  rw [eq_ix2 i]
  exact v86_apply _ _ _ _ _

theorem v_eq : val_main_v87 (F := Ideal) (m (c, main_arg0)) (m (c, main_arg1)) (m (c, main_arg2)) = GV m c := by
  funext i
  rw [eq_ix2 i]
  exact v87_apply _ _ _ _ _

/-- Where the argument arrays hold reals, so does the projection. -/
theorem proj_real (h0 : ∀ i, IsR ((m (c, main_arg0) : FVec Ideal S16384x1024 .f32) i))
    (h1 : ∀ i, IsR ((m (c, main_arg1) : FVec Ideal S1024 .f32) i))
    (h2 : ∀ i, IsR ((m (c, main_arg2) : FVec Ideal S1024x5632 .f32) i)) (i : Fin 16384) (n : Fin 5632) : IsR (projRow m c i n) :=
  Cert.Proj.IsR.col (IsR.nrm (fun _ => h0 _) fun _ => h1 _) fun _ => h2 _

/-- The reference's merge coefficients are the kernel's. -/
theorem coef_eq (hp : ∀ i n, IsR (projRow m c i n)) :
    val_main_v78 (F := Ideal) (m (c, main_arg0)) (m (c, main_arg1)) (m (c, main_arg2)) (m (c, main_arg3)) = GC m c := by
  funext i
  obtain ⟨r, n, rfl⟩ : ∃ (r : Fin 16384) (n : Fin 2048), i = ix2 r n := ⟨i 0, i 1, eq_ix2 i⟩
  rw [GC_apply, coefRow]
  by_cases h : n.val < 1024
  · rw [dif_pos h, gateRow, logis_eq, gelu_eq kc_eq (hp _ _)]
    exact v78_lo _ _ _ _ r ⟨n.val, h⟩
  · rw [dif_neg h, gateRow, logis_eq]
    obtain ⟨j, rfl⟩ : ∃ j : Fin 1024, (⟨1024 + j.val, Nat.add_lt_add_left j.isLt 1024⟩ : Fin 2048) = n :=
      ⟨⟨n.val - 1024, by omega⟩, Fin.ext (by show 1024 + (n.val - 1024) = n.val; omega)⟩
    refine (v78_hi _ _ _ _ r j).trans ?_
    rw [show (⟨3584 + (1024 + j.val), by omega⟩ : Fin 5632) = ⟨4608 + j, by omega⟩ from Fin.ext (by show 3584 + (1024 + j.val) = 4608 + j.val; omega)]
    rfl

end Cert.Kernel2Ideal.ProjEq

end
-- ==== Proof.ProjPre.lean ====
module

public import proofs.«01_k».proof.Proof.Gen.Pre_finite2
public import proofs.«01_k».proof.Proof.FfnMath
public import Idealize.ShloMosaic.Lib.ReduceAll

@[expose] public section

noncomputable section

namespace Cert.Pre_finite2.ProjPre

open Cert.Pre_finite2 Cert.Pre_finite2.Gen Idealize.ShloMosaic Cert.Ffn

variable {x0 : FVec Ideal S16384x1024 .f32} {x1 : FVec Ideal S1024 .f32} {x2 : FVec Ideal S1024x5632 .f32}
  {x3 : FVec Ideal S2048 .f32} {x4 : FVec Ideal S4x1024 .f32} {x5 : FVec Ideal S1024 .f32}

instance : Subsingleton S_.Idx := ⟨fun _ _ => funext fun a => a.elim0⟩

/-- What the precondition says: the first three arrays hold reals. -/
theorem reals (h : fn (F := Ideal) x0 x1 x2 x3 x4 x5 = fun _ => 1#1) :
    (∀ i, IsR (x0 i)) ∧ (∀ i, IsR (x1 i)) ∧ ∀ i, IsR (x2 i) := by
  obtain ⟨e, e2⟩ := IntOp.andi_eq_one.1 (congrFun h fun a => a.elim0)
  obtain ⟨e0, e1⟩ := IntOp.andi_eq_one.1 e
  exact ⟨fun i => isR_of_lt (Host.reduce_andi_all _ _ _ _ _ e0 i), fun i => isR_of_lt (Host.reduce_andi_all _ _ _ _ _ e1 i),
    fun i => isR_of_lt (Host.reduce_andi_all _ _ _ _ _ e2 i)⟩

end Cert.Pre_finite2.ProjPre

end
-- ==== Proof.ProjClaims.lean ====
module

public import proofs.«01_k».proof.Defs
public import proofs.«01_k».proof.Proof.Gen.Kernel2.Frame
public import proofs.«01_k».proof.Proof.Gen.Reference2Ideal.Run
public import proofs.«01_k».proof.Proof.ProjValue
public import proofs.«01_k».proof.Proof.ProjConvFinal
public import proofs.«01_k».proof.Proof.ProjEq
public import proofs.«01_k».proof.Proof.ProjPre
public import Idealize.ShloMosaic.Lib.Quiescent
public import Idealize.ShloMosaic.Lib.Claim
public import Idealize.ShloMosaic.Adequacy

@[expose] public section

noncomputable section

namespace Cert.Proof.Proj

open Idealize.ShloMosaic Idealize.ShloMosaic.TcCoe Idealize.SL.Sem Cert.Ffn Cert.Proj

/-- The reference's run leaves its arguments, and declares no semaphore. -/
theorem reference_frame : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The one named constant. -/
theorem preserves : Cert.preserves_Kernel2_Kernel2Ideal :=
  IdealRules.named_const.statement Cert.Kernel2Ideal.κ "gelu_root_cube" .f32 0x3D122279#32
    ((80338380498831 / 2251799813685248 : ℝ) : EReal) rfl

/-- The convolution, queries, keys, values and merge coefficients are the reference's, where the kernel's arguments are. -/
theorem value : Cert.algebraic_Kernel2Ideal_Reference2Ideal_pre_finite2 := by
  intro m g m' g' hpre hagree
  refine ⟨Cert.Kernel2Ideal.ProjValue.GU m, Cert.Kernel2Ideal.ProjValue.GQ m,
    Cert.Kernel2Ideal.ProjValue.GK m, Cert.Kernel2Ideal.ProjValue.GV m, Cert.Kernel2Ideal.ProjValue.GC m,
    (θ_run Cert.Kernel2Ideal.defs _ _).mono (fun r h c =>
      ⟨((h.1 c).1 8).trans (Cert.Kernel2Ideal.ProjValue.final_u m c),
        ((h.1 c).1 9).trans (Cert.Kernel2Ideal.ProjValue.final_q m c),
        ((h.1 c).1 10).trans (Cert.Kernel2Ideal.ProjValue.final_k m c),
        ((h.1 c).1 11).trans (Cert.Kernel2Ideal.ProjValue.final_v m c),
        ((h.1 c).1 12).trans (Cert.Kernel2Ideal.ProjValue.final_coef m c), h.2 c⟩)
      (θ_run_and (Cert.Kernel2Ideal.Gen.run_main m g) (Cert.Kernel2Ideal.Gen.unchanged m g)),
    (θ_run Cert.Reference2Ideal.defs _ _).mono (fun r h c => ?_) (Cert.Reference2Ideal.Value.run (F := Ideal) m' g')⟩
  obtain ⟨a0, a1, a2, a3, a4, a5⟩ := hagree c
  obtain ⟨r0, r1, r2⟩ := Cert.Pre_finite2.ProjPre.reals (hpre c)
  obtain ⟨hu, hq, hk, hv, hc, hargs⟩ := h c
  refine ⟨hu.trans ?_, hq.trans ?_, hk.trans ?_, hv.trans ?_, hc.trans ?_, hargs⟩
  · rw [Cert.Reference2Ideal.Read.val_main_v80_eq, a0, a1, a2, a4, a5]
    exact Cert.Kernel2Ideal.ProjValue.u_eq m c
  · refine (Cert.Reference2Ideal.Read.val_main_v85_eq _ _ _).trans ?_
    rw [a0, a1, a2]
    exact Cert.Kernel2Ideal.ProjEq.q_eq m c
  · refine (Cert.Reference2Ideal.Read.val_main_v86_eq _ _ _).trans ?_
    rw [a0, a1, a2]
    exact Cert.Kernel2Ideal.ProjEq.k_eq m c
  · refine (Cert.Reference2Ideal.Read.val_main_v87_eq _ _ _).trans ?_
    rw [a0, a1, a2]
    exact Cert.Kernel2Ideal.ProjEq.v_eq m c
  · rw [Cert.Reference2Ideal.Read.val_main_v78_eq, a0, a1, a2, a3]
    exact Cert.Kernel2Ideal.ProjEq.coef_eq m c (Cert.Kernel2Ideal.ProjEq.proj_real m c r0 r1 r2)

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import Idealize.ShloMosaic.Adequacy
public import proofs.«01_k».proof.Proof.FfnValue
public import proofs.«01_k».proof.Proof.FfnRef
public import proofs.«01_k».proof.Proof.FfnPre
public import proofs.«01_k».proof.Proof.ProjClaims
public import Idealize.ShloMosaic.Init

@[expose] public section

noncomputable section

namespace Cert.Proof

open Idealize.ShloMosaic Idealize.SL.Sem Cert.Kernel

/-- The reference's run leaves its arguments, and declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are one array, where the kernel's arguments are the reference's. -/
theorem value : Cert.algebraic_KernelIdeal_ReferenceIdeal_pre_finite := by
  intro m g m' g' hpre hagree
  refine ⟨fun c => Cert.KernelIdeal.FfnValue.G m c,
    (θ_run Cert.KernelIdeal.defs _ _).mono (fun r h c => ⟨(h c).1.trans (Cert.KernelIdeal.FfnValue.final m c), (h c).2⟩)
      (Cert.KernelIdeal.Value.run_blocks m g),
    (θ_run Cert.ReferenceIdeal.defs _ _).mono (fun r h c => ⟨(h c).1.trans ?_, (h c).2⟩) (Cert.ReferenceIdeal.Value.run (F := Ideal) m' g')⟩
  obtain ⟨a0, a1, a2, a3, a4, a5, a6, a7, a8, a9⟩ := hagree c
  rw [Cert.ReferenceIdeal.Read.val_main_v40_eq, a0, a1, a2, a3, a4, a5, a6, a7, a8, a9]
  obtain ⟨⟨r0, r1, r2, r3⟩, r4, r5, r6, r7⟩ := Cert.Pre_finite.FfnPre.reals (hpre c)
  funext i
  rw [eq_ix2 i]
  refine (Cert.ReferenceIdeal.FfnRef.out_apply _ _ _ _ _ _ _ _ _ _ _ _).trans ?_
  refine Eq.trans ?_ (Cert.KernelIdeal.FfnValue.G_apply m c _ _).symm
  exact (congrFun (Cert.Ffn.ffnRow_eq _ _ _ _ _ (fun l k => r7 _)
    (Cert.Ffn.IsR.resid (fun _ => r0 _) (fun _ => r1 _) (fun _ => r2 _) (fun _ => r3 _) (fun _ => r4 _) (fun _ => r4 _)
      fun _ _ => r5 _) (fun _ => r6 _)) _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  Cert.Pre_finite2.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ,
  fun m ρ _ => Cert.Kernel2Ideal.Gen.frame m ρ, Proj.reference_frame, fun m ρ _ => Proj.reference_frame m ρ trivial,
  trivial, value, Proj.preserves, Proj.value⟩

end Cert.Proof

end
